-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked [hPre_finite_unmasked : Cert.Pre_finite_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked [hPre_finite_unmasked : Cert.Pre_finite_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_unmasked [hKernelIdeal : Cert.KernelIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_unmasked [hReferenceIdeal : Cert.ReferenceIdeal.Facts] [hPre_finite_unmasked : Cert.Pre_finite_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "inv_n" .f32 0x38D1B717#32 ((1 / 10000 : ℝ) : EReal)

def algebraic_KernelIdeal_ReferenceIdeal_pre_finite_unmasked [hKernelIdeal : Cert.KernelIdeal.Facts] [hReferenceIdeal : Cert.ReferenceIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v9_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_unmasked : Cert.Pre_finite_unmasked.Facts),
    quiescent_Kernel (hKernel := hKernel)
    ∧ quiescent_KernelIdeal (hKernelIdeal := hKernelIdeal)
    ∧ quiescent_KernelIdeal_pre_finite_unmasked (hKernelIdeal := hKernelIdeal) (hPre_finite_unmasked := hPre_finite_unmasked)
    ∧ quiescent_ReferenceIdeal (hReferenceIdeal := hReferenceIdeal)
    ∧ quiescent_ReferenceIdeal_pre_finite_unmasked (hReferenceIdeal := hReferenceIdeal) (hPre_finite_unmasked := hPre_finite_unmasked)
    ∧ preserves_Kernel_KernelIdeal
    ∧ algebraic_KernelIdeal_ReferenceIdeal_pre_finite_unmasked (hKernelIdeal := hKernelIdeal) (hReferenceIdeal := hReferenceIdeal) (hPre_finite_unmasked := hPre_finite_unmasked)
-- ==== Pre_finite_unmasked.lean ====
abbrev S10000 : Shape := ⟨1, ![10000]⟩
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S128x128 : Shape := ⟨2, ![128, 128]⟩
abbrev S128 : Shape := ⟨1, ![128]⟩
abbrev S1 : Shape := ⟨1, ![1]⟩
abbrev S1x128x128 : Shape := ⟨3, ![1, 128, 128]⟩

class Facts : Prop where
  bcast_S_S1x10000 : S_.BroadcastsInDim S1x10000 (![] : Fin 0 → Fin S1x10000.rank)
  bcast_S_S1x10000x128 : S_.BroadcastsInDim S1x10000x128 (![] : Fin 0 → Fin S1x10000x128.rank)
  bcast_S_S1x10000x10000 : S_.BroadcastsInDim S1x10000x10000 (![] : Fin 0 → Fin S1x10000x10000.rank)
  bcast_S_S128x128 : S_.BroadcastsInDim S128x128 (![] : Fin 0 → Fin S128x128.rank)
  bcast_S_S128 : S_.BroadcastsInDim S128 (![] : Fin 0 → Fin S128.rank)
  bcast_S_S1 : S_.BroadcastsInDim S1 (![] : Fin 0 → Fin S1.rank)
  bcast_S_S1x128x128 : S_.BroadcastsInDim S1x128x128 (![] : Fin 0 → Fin S1x128x128.rank)

variable [Facts]

def fn_part1 {F : FTy → Type} [FloatOps F] (main_arg11 : FVec F S1x128x128 .f32) (main_v1 : IVec S1x10000 1) (main_v4 : IVec S1x10000x128 1) (main_v7 : IVec S1x10000x128 1) (main_v10 : IVec S1x10000x10000 1) (main_v13 : IVec S128x128 1) (main_v16 : IVec S128 1) (main_v17 : FVec F S1 .f32) : IVec S1x10000 1 × IVec S1x10000x128 1 × IVec S1x10000x128 1 × IVec S1x10000x10000 1 × IVec S128x128 1 × IVec S128 1 × IVec S1 1 × IVec S1x128x128 1 :=
  let main_cst_5 : FVec F S_ .f32 := constant S_ .f32 0x7F800000#32
  let main_v18 : FVec F S1 .f32 := broadcastInDim S1 ![] bcast_S_S1 main_cst_5
  let main_v19 : IVec S1 1 := cmpf .olt main_v17 main_v18
  let main_v20 : FVec F S1x128x128 .f32 := Host.absf main_arg11
  let main_cst_6 : FVec F S_ .f32 := constant S_ .f32 0x7F800000#32
  let main_v21 : FVec F S1x128x128 .f32 := broadcastInDim S1x128x128 ![] bcast_S_S1x128x128 main_cst_6
  let main_v22 : IVec S1x128x128 1 := cmpf .olt main_v20 main_v21
  (main_v1, main_v4, main_v7, main_v10, main_v13, main_v16, main_v19, main_v22)

def fn {F : FTy → Type} [FloatOps F] (main_arg0 : IVec S10000 32) (main_arg1 : FVec F S1x10000x128 .f32) (main_arg2 : FVec F S1x10000x128 .f32) (main_arg3 : FVec F S1x10000x10000 .f32) (main_arg4 : IVec S_ 32) (main_arg5 : FVec F S1x10000 .f32) (main_arg6 : FVec F S1x10000 .f32) (main_arg7 : FVec F S1x10000 .f32) (main_arg8 : FVec F S128x128 .f32) (main_arg9 : FVec F S128 .f32) (main_arg10 : FVec F S1 .f32) (main_arg11 : FVec F S1x128x128 .f32) (main_arg12 : FVec F S1 .f32) : IVec S1x10000 1 × IVec S1x10000x128 1 × IVec S1x10000x128 1 × IVec S1x10000x10000 1 × IVec S128x128 1 × IVec S128 1 × IVec S1 1 × IVec S1x128x128 1 :=
  let main_cst : FVec F S_ .f32 := constant S_ .f32 0x3F800000#32
  let main_v0 : FVec F S1x10000 .f32 := broadcastInDim S1x10000 ![] bcast_S_S1x10000 main_cst
  let main_v1 : IVec S1x10000 1 := cmpf .oeq main_arg5 main_v0
  let main_v2 : FVec F S1x10000x128 .f32 := Host.absf main_arg1
  let main_cst_0 : FVec F S_ .f32 := constant S_ .f32 0x7F800000#32
  let main_v3 : FVec F S1x10000x128 .f32 := broadcastInDim S1x10000x128 ![] bcast_S_S1x10000x128 main_cst_0
  let main_v4 : IVec S1x10000x128 1 := cmpf .olt main_v2 main_v3
  let main_v5 : FVec F S1x10000x128 .f32 := Host.absf main_arg2
  let main_cst_1 : FVec F S_ .f32 := constant S_ .f32 0x7F800000#32
  let main_v6 : FVec F S1x10000x128 .f32 := broadcastInDim S1x10000x128 ![] bcast_S_S1x10000x128 main_cst_1
  let main_v7 : IVec S1x10000x128 1 := cmpf .olt main_v5 main_v6
  let main_v8 : FVec F S1x10000x10000 .f32 := Host.absf main_arg3
  let main_cst_2 : FVec F S_ .f32 := constant S_ .f32 0x7F800000#32
  let main_v9 : FVec F S1x10000x10000 .f32 := broadcastInDim S1x10000x10000 ![] bcast_S_S1x10000x10000 main_cst_2
  let main_v10 : IVec S1x10000x10000 1 := cmpf .olt main_v8 main_v9
  let main_v11 : FVec F S128x128 .f32 := Host.absf main_arg8
  let main_cst_3 : FVec F S_ .f32 := constant S_ .f32 0x7F800000#32
  let main_v12 : FVec F S128x128 .f32 := broadcastInDim S128x128 ![] bcast_S_S128x128 main_cst_3
  let main_v13 : IVec S128x128 1 := cmpf .olt main_v11 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  let main_v17 : FVec F S1 .f32 := Host.absf main_arg10
  fn_part1 (F := F) main_arg11 main_v1 main_v4 main_v7 main_v10 main_v13 main_v16 main_v17
-- ==== Kernel.lean ====
abbrev S10000 : Shape := ⟨1, ![10000]⟩
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S128x128 : Shape := ⟨2, ![128, 128]⟩
abbrev S128 : Shape := ⟨1, ![128]⟩
abbrev S1 : Shape := ⟨1, ![1]⟩
abbrev S1x128x128 : Shape := ⟨3, ![1, 128, 128]⟩
abbrev S10000x128 : Shape := ⟨2, ![10000, 128]⟩
abbrev S10000x10000 : Shape := ⟨2, ![10000, 10000]⟩
abbrev S256 : Shape := ⟨1, ![256]⟩
abbrev S1x256 : Shape := ⟨2, ![1, 256]⟩
abbrev S1x1 : Shape := ⟨2, ![1, 1]⟩
abbrev S10000x2 : Shape := ⟨2, ![10000, 2]⟩
abbrev S1x200x128 : Shape := ⟨3, ![1, 200, 128]⟩
abbrev S10000x256 : Shape := ⟨2, ![10000, 256]⟩
abbrev S1x128 : Shape := ⟨2, ![1, 128]⟩
abbrev S3x200x10000 : Shape := ⟨3, ![3, 200, 10000]⟩
abbrev S3 : Shape := ⟨1, ![3]⟩
abbrev S1x200x10000 : Shape := ⟨3, ![1, 200, 10000]⟩
abbrev S200x10000 : Shape := ⟨2, ![200, 10000]⟩
abbrev S200x256 : Shape := ⟨2, ![200, 256]⟩
abbrev S200x128 : Shape := ⟨2, ![200, 128]⟩
abbrev S128x1 : Shape := ⟨2, ![128, 1]⟩
abbrev S10000x1 : Shape := ⟨2, ![10000, 1]⟩
abbrev S1x20000 : Shape := ⟨2, ![1, 20000]⟩

abbrev nBuf : Space → Nat
  | .hbm => 34
  | .vmem => 15
  | .smem => 0
  | _ => 0

abbrev bufTy : (tb : Table) → Fin (tcTables nBuf tb) → BufTy
  | .hbm, ⟨0, _⟩ => ⟨S10000, .i32⟩
  | .hbm, ⟨1, _⟩ => ⟨S1x10000x128, .f32⟩
  | .hbm, ⟨2, _⟩ => ⟨S1x10000x128, .f32⟩
  | .hbm, ⟨3, _⟩ => ⟨S1x10000x10000, .f32⟩
  | .hbm, ⟨4, _⟩ => ⟨S_, .i32⟩
  | .hbm, ⟨5, _⟩ => ⟨S1x10000, .f32⟩
  | .hbm, ⟨6, _⟩ => ⟨S1x10000, .f32⟩
  | .hbm, ⟨7, _⟩ => ⟨S1x10000, .f32⟩
  | .hbm, ⟨8, _⟩ => ⟨S128x128, .f32⟩
  | .hbm, ⟨9, _⟩ => ⟨S128, .f32⟩
  | .hbm, ⟨10, _⟩ => ⟨S1, .f32⟩
  | .hbm, ⟨11, _⟩ => ⟨S1x128x128, .f32⟩
  | .hbm, ⟨12, _⟩ => ⟨S1, .f32⟩
  | .hbm, ⟨13, _⟩ => ⟨S10000x128, .f32⟩
  | .hbm, ⟨14, _⟩ => ⟨S10000x128, .f32⟩
  | .hbm, ⟨15, _⟩ => ⟨S10000x10000, .f32⟩
  | .hbm, ⟨16, _⟩ => ⟨S128x128, .f32⟩
  | .hbm, ⟨17, _⟩ => ⟨S256, .f32⟩
  | .hbm, ⟨18, _⟩ => ⟨S1x256, .f32⟩
  | .hbm, ⟨19, _⟩ => ⟨S1x1, .f32⟩
  | .hbm, ⟨20, _⟩ => ⟨S1x1, .f32⟩
  | .hbm, ⟨21, _⟩ => ⟨S128x128, .f32⟩
  | .hbm, ⟨22, _⟩ => ⟨S1x10000x128, .f32⟩
  | .hbm, ⟨23, _⟩ => ⟨S1x10000x128, .f32⟩
  | .hbm, ⟨24, _⟩ => ⟨S10000x2, .f32⟩
  | .hbm, ⟨25, _⟩ => ⟨S10000x1, .f32⟩
  | .hbm, ⟨26, _⟩ => ⟨S10000, .f32⟩
  | .hbm, ⟨27, _⟩ => ⟨S1x10000, .f32⟩
  | .hbm, ⟨28, _⟩ => ⟨S1x10000, .f32⟩
  | .hbm, ⟨29, _⟩ => ⟨S10000x1, .f32⟩
  | .hbm, ⟨30, _⟩ => ⟨S10000, .f32⟩
  | .hbm, ⟨31, _⟩ => ⟨S1x10000, .f32⟩
  | .hbm, ⟨32, _⟩ => ⟨S1x10000, .f32⟩
  | .hbm, ⟨33, _⟩ => ⟨S1x20000, .f32⟩
  | .local _ .vmem, ⟨0, _⟩ => ⟨S128x128, .f32⟩
  | .local _ .vmem, ⟨1, _⟩ => ⟨S1x256, .f32⟩
  | .local _ .vmem, ⟨2, _⟩ => ⟨S1x1, .f32⟩
  | .local _ .vmem, ⟨3, _⟩ => ⟨S128x128, .f32⟩
  | .local _ .vmem, ⟨4, _⟩ => ⟨S1x1, .f32⟩
  | .local _ .vmem, ⟨5, _⟩ => ⟨S1x200x128, .f32⟩
  | .local _ .vmem, ⟨6, _⟩ => ⟨S1x200x128, .f32⟩
  | .local _ .vmem, ⟨7, _⟩ => ⟨S1x200x128, .f32⟩
  | .local _ .vmem, ⟨8, _⟩ => ⟨S1x200x128, .f32⟩
  | .local _ .vmem, ⟨9, _⟩ => ⟨S10000x2, .f32⟩
  | .local _ .vmem, ⟨10, _⟩ => ⟨S10000x256, .f32⟩
  | .local _ .vmem, ⟨11, _⟩ => ⟨S10000x256, .f32⟩
  | .local _ .vmem, ⟨12, _⟩ => ⟨S1x128, .f32⟩
  | .local _ .vmem, ⟨13, _⟩ => ⟨S10000x128, .f32⟩
  | .local _ .vmem, ⟨14, _⟩ => ⟨S3x200x10000, .f32⟩
  | _, _ => ⟨S10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c2_i32 : BitVec 32 := 2#32
  let v3 : BitVec 32 := Scalar.addi arg0 c2_i32
  let c50_i32 : BitVec 32 := 50#32
  let v4 : BitVec 1 := Scalar.cmpi .slt v3 c50_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c2_i32_28 : BitVec 32 := 2#32
  let v54 : BitVec 32 := Scalar.addi arg0 c2_i32_28
  let c3_i32_29 : BitVec 32 := 3#32
  let v55 : BitVec 32 := Scalar.remsi v54 c3_i32_29
  ![v55.toNat]
def k0_off2 (i : grid0.Coords) : Fin 3 → Nat :=
  let arg0 : BitVec 32 := BitVec.ofNat 32 (i 0).val
  let c2_i32_28 : BitVec 32 := 2#32
  let v54 : BitVec 32 := Scalar.addi arg0 c2_i32_28
  let c3_i32_29 : BitVec 32 := 3#32
  let v55 : BitVec 32 := Scalar.remsi v54 c3_i32_29
  let c0_i32_31 : BitVec 32 := 0#32
  let c0_i32_32 : BitVec 32 := 0#32
  ![v55.toNat, 0, 0]
def k0_off3 (i : grid0.Coords) : Fin 2 → Nat :=
  let arg0 : BitVec 32 := BitVec.ofNat 32 (i 0).val
  let c2_i32_27 : BitVec 32 := 2#32
  let v53 : BitVec 32 := Scalar.addi arg0 c2_i32_27
  let c200_i32_30 : BitVec 32 := 200#32
  let v56 : BitVec 32 := Scalar.muli v53 c200_i32_30
  let c0_i32_33 : BitVec 32 := 0#32
  ![v56.toNat, 0]
def k0_off4 (i : grid0.Coords) : Fin 1 → Nat :=
  let arg0 : BitVec 32 := BitVec.ofNat 32 (i 0).val
  let c3_i32 : BitVec 32 := 3#32
  let v7 : BitVec 32 := Scalar.remsi arg0 c3_i32
  ![v7.toNat]
def k0_off5 (i : grid0.Coords) : Fin 3 → Nat :=
  let arg0 : BitVec 32 := BitVec.ofNat 32 (i 0).val
  let c3_i32 : BitVec 32 := 3#32
  let v7 : BitVec 32 := Scalar.remsi arg0 c3_i32
  let c0_i32_2 : BitVec 32 := 0#32
  let c0_i32_3 : BitVec 32 := 0#32
  ![v7.toNat, 0, 0]
def k0_off6 (i : grid0.Coords) : Fin 2 → Nat :=
  let arg0 : BitVec 32 := BitVec.ofNat 32 (i 0).val
  let c200_i32 : BitVec 32 := 200#32
  let v8 : BitVec 32 := Scalar.muli arg0 c200_i32
  let c0_i32_4 : BitVec 32 := 0#32
  ![v8.toNat, 0]
def k0_off7 (i : grid0.Coords) : Fin 3 → Nat :=
  let arg0 : BitVec 32 := BitVec.ofNat 32 (i 0).val
  let c3_i32 : BitVec 32 := 3#32
  let v7 : BitVec 32 := Scalar.remsi arg0 c3_i32
  let v14 : Index := Scalar.indexCast v7
  let c0 : Index := 0#32
  let c0_5 : Index := 0#32
  ![v14.toNat, 0, 0]
def k0_off8 (i : grid0.Coords) : Fin 2 → Nat :=
  let arg0 : BitVec 32 := BitVec.ofNat 32 (i 0).val
  let c200_i32_19 : BitVec 32 := 200#32
  let v38 : BitVec 32 := Scalar.muli arg0 c200_i32_19
  let v39 : Index := Scalar.indexCast v38
  let c0_20 : Index := 0#32
  ![v39.toNat, 0]
def k0_cond3 (i : grid0.Coords) : BitVec 1 :=
  let arg0 : BitVec 32 := BitVec.ofNat 32 (i 0).val
  let c49_i32 : BitVec 32 := 49#32
  let v50 : BitVec 1 := Scalar.cmpi .eq arg0 c49_i32
  let v51 : BitVec 32 := Scalar.extui v50
  let c0_i32_26 : BitVec 32 := 0#32
  let v52 : BitVec 1 := Scalar.cmpi .ne v51 c0_i32_26
  v52

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S10000x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "inv_n" => some ((1 / 10000 : ℝ) : EReal)
  | _ => none
-- ==== ReferenceIdeal.lean ====
abbrev S10000 : Shape := ⟨1, ![10000]⟩
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S128x128 : Shape := ⟨2, ![128, 128]⟩
abbrev S128 : Shape := ⟨1, ![128]⟩
abbrev S1 : Shape := ⟨1, ![1]⟩
abbrev S1x128x128 : Shape := ⟨3, ![1, 128, 128]⟩
abbrev S1x1x128 : Shape := ⟨3, ![1, 1, 128]⟩
abbrev S1x1x1 : Shape := ⟨3, ![1, 1, 1]⟩
abbrev S1x10000x1 : Shape := ⟨3, ![1, 10000, 1]⟩
abbrev S1x128 : Shape := ⟨2, ![1, 128]⟩
abbrev S1x20000 : Shape := ⟨2, ![1, 20000]⟩

abbrev nBuf : Space → Nat
  | .hbm => 76
  | .vmem => 0
  | .smem => 0
  | _ => 0

abbrev bufTy : (tb : Table) → Fin (tcTables nBuf tb) → BufTy
  | .hbm, ⟨0, _⟩ => ⟨S10000, .i32⟩
  | .hbm, ⟨1, _⟩ => ⟨S1x10000x128, .f32⟩
  | .hbm, ⟨2, _⟩ => ⟨S1x10000x128, .f32⟩
  | .hbm, ⟨3, _⟩ => ⟨S1x10000x10000, .f32⟩
  | .hbm, ⟨4, _⟩ => ⟨S_, .i32⟩
  | .hbm, ⟨5, _⟩ => ⟨S1x10000, .f32⟩
  | .hbm, ⟨6, _⟩ => ⟨S1x10000, .f32⟩
  | .hbm, ⟨7, _⟩ => ⟨S1x10000, .f32⟩
  | .hbm, ⟨8, _⟩ => ⟨S128x128, .f32⟩
  | .hbm, ⟨9, _⟩ => ⟨S128, .f32⟩
  | .hbm, ⟨10, _⟩ => ⟨S1, .f32⟩
  | .hbm, ⟨11, _⟩ => ⟨S1x128x128, .f32⟩
  | .hbm, ⟨12, _⟩ => ⟨S1, .f32⟩
  | .hbm, ⟨13, _⟩ => ⟨S1x10000x128, .f32⟩
  | .hbm, ⟨14, _⟩ => ⟨S1x10000x128, .f32⟩
  | .hbm, ⟨15, _⟩ => ⟨S1x1x128, .f32⟩
  | .hbm, ⟨16, _⟩ => ⟨S1x10000x128, .f32⟩
  | .hbm, ⟨17, _⟩ => ⟨S1x10000x128, .f32⟩
  | .hbm, ⟨18, _⟩ => ⟨S_, .f32⟩
  | .hbm, ⟨19, _⟩ => ⟨S1x10000x128, .f32⟩
  | .hbm, ⟨20, _⟩ => ⟨S1x10000x128, .i1⟩
  | .hbm, ⟨21, _⟩ => ⟨S1x1x1, .f32⟩
  | .hbm, ⟨22, _⟩ => ⟨S1x10000x128, .f32⟩
  | .hbm, ⟨23, _⟩ => ⟨S1x10000x128, .f32⟩
  | .hbm, ⟨24, _⟩ => ⟨S1x10000x128, .f32⟩
  | .hbm, ⟨25, _⟩ => ⟨S1x10000x1, .f32⟩
  | .hbm, ⟨26, _⟩ => ⟨S1x10000x128, .f32⟩
  | .hbm, ⟨27, _⟩ => ⟨S1x10000x128, .f32⟩
  | .hbm, ⟨28, _⟩ => ⟨S_, .f32⟩
  | .hbm, ⟨29, _⟩ => ⟨S1x128, .f32⟩
  | .hbm, ⟨30, _⟩ => ⟨S_, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S1x10000x128, .f32⟩
  | .hbm, ⟨43, _⟩ => ⟨S1x10000x128, .f32⟩
  | .hbm, ⟨44, _⟩ => ⟨S1x1x128, .f32⟩
  | .hbm, ⟨45, _⟩ => ⟨S1x10000x128, .f32⟩
  | .hbm, ⟨46, _⟩ => ⟨S1x10000x128, .f32⟩
  | .hbm, ⟨47, _⟩ => ⟨S_, .f32⟩
  | .hbm, ⟨48, _⟩ => ⟨S1x10000x128, .f32⟩
  | .hbm, ⟨49, _⟩ => ⟨S1x10000x128, .i1⟩
  | .hbm, ⟨50, _⟩ => ⟨S1x1x1, .f32⟩
  | .hbm, ⟨51, _⟩ => ⟨S1x10000x128, .f32⟩
  | .hbm, ⟨52, _⟩ => ⟨S1x10000x128, .f32⟩
  | .hbm, ⟨53, _⟩ => ⟨S1x10000x128, .f32⟩
  | .hbm, ⟨54, _⟩ => ⟨S1x1x128, .f32⟩
  | .hbm, ⟨55, _⟩ => ⟨S128x128, .f32⟩
  | .hbm, ⟨56, _⟩ => ⟨S1x10000x128, .f32⟩
  | .hbm, ⟨57, _⟩ => ⟨S1x10000x128, .f32⟩
  | .hbm, ⟨58, _⟩ => ⟨S1x10000x128, .f32⟩
  | .hbm, ⟨59, _⟩ => ⟨S_, .f32⟩
  | .hbm, ⟨60, _⟩ => ⟨S1x10000, .f32⟩
  | .hbm, ⟨61, _⟩ => ⟨S_, .f32⟩
  | .hbm, ⟨62, _⟩ => ⟨S1x10000, .f32⟩
  | .hbm, ⟨63, _⟩ => ⟨S1x10000, .f32⟩
  | .hbm, ⟨64, _⟩ => ⟨S128x128, .f32⟩
  | .hbm, ⟨65, _⟩ => ⟨S1x10000x128, .f32⟩
  | .hbm, ⟨66, _⟩ => ⟨S1x10000x128, .f32⟩
  | .hbm, ⟨67, _⟩ => ⟨S1x10000x128, .f32⟩
  | .hbm, ⟨68, _⟩ => ⟨S_, .f32⟩
  | .hbm, ⟨69, _⟩ => ⟨S1x10000, .f32⟩
  | .hbm, ⟨70, _⟩ => ⟨S_, .f32⟩
  | .hbm, ⟨71, _⟩ => ⟨S1x10000, .f32⟩
  | .hbm, ⟨72, _⟩ => ⟨S1x10000, .f32⟩
  | .hbm, ⟨73, _⟩ => ⟨S1x10000, .f32⟩
  | .hbm, ⟨74, _⟩ => ⟨S1x10000, .f32⟩
  | .hbm, ⟨75, _⟩ => ⟨S1x20000, .f32⟩
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Proof.KernelRing.lean ====
/- The kernel's region, ready for a proof of its values: the host lines around the region, the grid's conditions in
   closed form, the staging and scratch buffers, and the ring of three row blocks of the adjacency matrix that the
   body streams across grid points. Everything here is stated over any element type. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Tracked

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host's operations before the call make no fresh buffer. -/
theorem hostOps0_fresh : (hostOps0 : List (HloOp τ sig (Elt F))).Forall fun op => op.fresh = ∅ := by
  simp only [List.Forall]; repeat' constructor
/-- Nor do those after it. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v10, main_v11, main_v12, main_v13, main_v14, main_v15, main_v16, main_v17, main_v18}
/-- What the host writes after the call is none of the arrays the call uses. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (Pipeline.UD sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (Pipeline.UD sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (Pipeline.UD sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg10`: it ends as launched. -/
theorem W_main_arg10 (dats : (p : Fin _) → (c : Dev nD) → Dat τ (Elt F) Unit ℕ (Pipeline.UD sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host operation after the region writes `main_arg11`: it ends as launched. -/
theorem W_main_arg11 (dats : (p : Fin _) → (c : Dev nD) → Dat τ (Elt F) Unit ℕ (Pipeline.UD sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
/-- No host operation after the region writes `main_arg12`: it ends as launched. -/
theorem W_main_arg12 (dats : (p : Fin _) → (c : Dev nD) → Dat τ (Elt F) Unit ℕ (Pipeline.UD sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 50 = 0 :=
  (fun t => by
    have ht : t.val < 50 := Nat.lt_of_lt_of_eq t.isLt N_0
    have e0 : (grid0.coords t 0).val = t.val / 1 % 50 := Pipeline.Grid.coords_val t 0 (by decide) rfl
    simp only [cond0_0, e0]
    word_cmp
   : ∀ t : Fin grid0.N, cond0_0 (grid0.coords t) ↔ t.val % 50 = 0)

/-- The condition of the body's `scf.if` 1 (`k0_h2`), from the grid coordinates (the skeleton's scalar
    chain substituted). -/
abbrev cond0_1 (i : grid0.Coords) : Prop := k0_cond2 i = 1#1
/-- It holds at the points before point 48 — decided over the grid. -/
theorem hcond0_1 : ∀ t : Fin cfg0.N, cond0_1 (grid0.coords t) ↔ t.val < 48 :=
  (by decide +kernel : ∀ t : Fin grid0.N, cond0_1 (grid0.coords t) ↔ t.val < 48)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 50 = 49 :=
  (fun t => by
    have ht : t.val < 50 := Nat.lt_of_lt_of_eq t.isLt N_0
    have e0 : (grid0.coords t 0).val = t.val / 1 % 50 := Pipeline.Grid.coords_val t 0 (by decide) rfl
    simp only [cond0_2, k0_cond3, e0]
    word_cmp
   : ∀ t : Fin grid0.N, cond0_2 (grid0.coords t) ↔ t.val % 50 = 49)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x128 .f32 := win0_0.stage (cfg0.slots t 0)
/-- It is whole. -/
abbrev hs0_0 (t : Fin cfg0.N) : (ms0_0 t).IsWhole := hstage0_0 ((cfg0.slots t 0).cast nbuf0_0)
/-- Window 1's staging buffer at a point. -/
abbrev ms0_1 (t : Fin cfg0.N) : Memref sig .tc .vmem S1x256 .f32 := win0_1.stage (cfg0.slots t 1)
/-- It is whole. -/
abbrev hs0_1 (t : Fin cfg0.N) : (ms0_1 t).IsWhole := hstage0_1 ((cfg0.slots t 1).cast nbuf0_1)
/-- Window 2's staging buffer at a point. -/
abbrev ms0_2 (t : Fin cfg0.N) : Memref sig .tc .vmem S1x1 .f32 := win0_2.stage (cfg0.slots t 2)
/-- It is whole. -/
abbrev hs0_2 (t : Fin cfg0.N) : (ms0_2 t).IsWhole := hstage0_2 ((cfg0.slots t 2).cast nbuf0_2)
/-- Window 3's staging buffer at a point. -/
abbrev ms0_3 (t : Fin cfg0.N) : Memref sig .tc .vmem S128x128 .f32 := win0_3.stage (cfg0.slots t 3)
/-- It is whole. -/
abbrev hs0_3 (t : Fin cfg0.N) : (ms0_3 t).IsWhole := hstage0_3 ((cfg0.slots t 3).cast nbuf0_3)
/-- Window 4's staging buffer at a point. -/
abbrev ms0_4 (t : Fin cfg0.N) : Memref sig .tc .vmem S1x1 .f32 := win0_4.stage (cfg0.slots t 4)
/-- It is whole. -/
abbrev hs0_4 (t : Fin cfg0.N) : (ms0_4 t).IsWhole := hstage0_4 ((cfg0.slots t 4).cast nbuf0_4)
/-- Window 5's staging buffer at a point. -/
abbrev ms0_5 (t : Fin cfg0.N) : Memref sig .tc .vmem S1x200x128 .f32 := win0_5.stage (cfg0.slots t 5)
/-- It is whole. -/
abbrev hs0_5 (t : Fin cfg0.N) : (ms0_5 t).IsWhole := hstage0_5 ((cfg0.slots t 5).cast nbuf0_5)
/-- Window 6's staging buffer at a point. -/
abbrev ms0_6 (t : Fin cfg0.N) : Memref sig .tc .vmem S1x200x128 .f32 := win0_6.stage (cfg0.slots t 6)
/-- It is whole. -/
abbrev hs0_6 (t : Fin cfg0.N) : (ms0_6 t).IsWhole := hstage0_6 ((cfg0.slots t 6).cast nbuf0_6)
/-- Window 7's staging buffer at a point. -/
abbrev ms0_7 (t : Fin cfg0.N) : Memref sig .tc .vmem S10000x2 .f32 := win0_7.stage (cfg0.slots t 7)
/-- It is whole. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S10000x256 .f32 := Memref.whole cc0_scratch0
/-- Scratch 1 as a whole. -/
abbrev scM0_1 : Memref sig .tc .vmem S10000x256 .f32 := Memref.whole cc0_scratch1
/-- Scratch 2 as a whole. -/
abbrev scM0_2 : Memref sig .tc .vmem S1x128 .f32 := Memref.whole cc0_scratch2
/-- Scratch 3 as a whole. -/
abbrev scM0_3 : Memref sig .tc .vmem S10000x128 .f32 := Memref.whole cc0_scratch3
/-- Scratch 4 as a whole. -/
abbrev scM0_4 : Memref sig .tc .vmem S3x200x10000 .f32 := Memref.whole cc0_scratch4
/-- The operands left in HBM that the body copies into scratch itself, whole. -/
abbrev hbM0_0 : Memref sig .tc .hbm S10000x128 .f32 := Memref.whole main_v0
/-- HBM array 1 of those read by hand, as a whole. -/
abbrev hbM0_1 : Memref sig .tc .hbm S10000x128 .f32 := Memref.whole main_v1
/-- HBM array 2 of those read by hand, as a whole. -/
abbrev hbM0_2 : Memref sig .tc .hbm S10000x10000 .f32 := Memref.whole main_v2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
/-- A whole HBM array's contents, as an assertion. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 10, SemLoc.dma 11, SemLoc.dma 12, SemLoc.dma 13] : Fin 4 → SemLoc sig) j
/-- The body's own semaphores are none of the pipeline's. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_v0, main_v1, main_v2}
/-- The arrays read by hand are among those the pipeline leaves alone. -/
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl | rfl | rfl | rfl | rfl | rfl
    all_goals intro b hb; simp only [H0, Finset.mem_insert, Finset.mem_singleton] at hb
    all_goals rcases hb with rfl | rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_v1) ∗ hbPt0 c hbM0_2 (V m c main_v2)) := by
  rw [BI.bigSep_eq_bigSepL_of_eq [main_v0, main_v1, main_v2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_v0) ∗ hbPt0 c hbM0_1 (V m c main_v1) ∗ hbPt0 c hbM0_2 (V m c main_v2))) := by
  rw [Pipeline.ΦD_eq, scopedRest0_eq, ownSems00_eq, hbmPts0_eq]; simp only [scM0_0, scM0_1, scM0_2, scM0_3, scM0_4, owns_whole]; try rfl

/-! ## Ring 0 of kernel 0: `main_v2` streamed through the 3 slots of `cc0_scratch4` on the cells of `cc0_scratch6`, 2 block ahead, in 50 steps -/

instance : NeZero grid0.N := ⟨by rw [N_0]; decide⟩
/-- A ring slot lies in the landing buffer. -/
theorem inb_slot0_0 (s : Fin 3) : ∀ a, (![s.val, 0, 0] : Fin 3 → Nat) a + S1x200x10000.size a ≤ S3x200x10000.size a := by
  have := s.isLt; intro a; fin_cases a <;> simp <;> omega
/-- A block of rows lies in the matrix. -/
theorem inb_src0_0 (b : Fin 50) : ∀ a, (![200 * b.val, 0] : Fin 2 → Nat) a + S200x10000.size a ≤ S10000x10000.size a := by
  have := b.isLt; intro a; fin_cases a <;> simp <;> omega
/-- A ring cell lies in the semaphore array. -/
theorem inb_cell0_0 (s : Fin 3) : ∀ a, (![s.val] : Fin 1 → Nat) a + S1.size a ≤ S3.size a := by
  have := s.isLt; intro a; fin_cases a <;> simp <;> omega
/-- Slot `s` of the ring, spelt as the body's transfers spell their destination, at offsets in `s`. -/
def rslot0_0 (s : Fin 3) : Memref sig .tc .vmem S200x10000 .f32 :=
  (scM0_4.slice (Rect.unit (s := S3x200x10000) ![s.val, 0, 0] S1x200x10000.size (inb_slot0_0 s)) (fun _ => rfl)).squeeze S200x10000 squeezes_S1x200x10000_S200x10000
/-- Block `b` of the operand (the block step `b` waits), spelt as the transfers spell their source, at offsets in `b`. -/
def srcB0_0 (b : Fin 50) : Memref sig .tc .hbm S200x10000 .f32 :=
  hbM0_2.slice (Rect.unit (s := S10000x10000) ![200 * b.val, 0] S200x10000.size (inb_src0_0 b)) (fun _ => rfl)
/-- Cell `s` of `cc0_scratch6`, spelt as the body spells a cell; its number in the pool. -/
def cellA0_0 (s : Fin 3) : DmaSems sig S_ := (cc0_scratch6.slice (Rect.unit (s := S3) ![s.val] S1.size (inb_cell0_0 s))).squeeze S_ squeezes_S1_S_
/-- The semaphore of a slot. -/
abbrev cellR0_0 (s : Fin 3) : SemLoc sig := SemLoc.dma (cellA0_0 s).sem
/-- Slot 0's semaphore by number. -/
theorem cellR0_0_0 : cellR0_0 0 = SemLoc.dma 11 := by decide
/-- Slot 1's semaphore by number. -/
theorem cellR0_0_1 : cellR0_0 1 = SemLoc.dma 12 := by decide
/-- Slot 2's semaphore by number. -/
theorem cellR0_0_2 : cellR0_0 2 = SemLoc.dma 13 := by decide

section Ring0_0
variable (c : Dev nD) (W : HbBuf0 (F := F) c hbM0_2)
/-- The operand is lent BY SHARE, one read-share copy of it per slot (the full share halved, the right half halved again):
    whatever blocks the transfers in flight stream — the same one twice, ones that overlap —, each borrows from its own slot's copy. -/
abbrev qs0_0 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 3) (f : HbBuf0 (F := F) c (rslot0_0 s)) : sProp 𝕄 := (rslot0_0 s).view.loc (c : Thread nD τ) ↦[(rslot0_0 s).view.set]{fullShare} f
/-- A slot's semaphore at zero. -/
abbrev cellP0_0 (s : Fin 3) : sProp 𝕄 := semVal ((c : Thread nD τ), cellR0_0 s) 0
/-- A share of a block of the matrix. -/
abbrev srcP0_0 (s : Fin 3) (b : Fin 50) : sProp 𝕄 := (srcB0_0 b).view.loc (c : Thread nD τ) ↦[(srcB0_0 b).view.set]{qs0_0 s} W
/-- (a `def`: no run reads this rest, and folded it stays out of the executor's table of held buffers) -/
def restP0_0 (s : Fin 3) (b : Fin 50) : sProp 𝕄 := ((c : Thread nD τ).loc main_v2) ↦[Finset.univ \ (srcB0_0 b).view.set]{qs0_0 s} W
/-- A slot's share of the matrix. -/
abbrev wholeP0_0 (s : Fin 3) : sProp 𝕄 := ((c : Thread nD τ).loc main_v2) ↦[Finset.univ]{qs0_0 s} W
/-- A slot's contents once a block has landed. -/
abbrev landed0_0 (s : Fin 3) (b : Fin 50) (f : HbBuf0 (F := F) c (rslot0_0 s)) : HbBuf0 (F := F) c (rslot0_0 s) :=
  (rslot0_0 s).view.writes (Elt F) f [⟨Rect.whole S200x10000, ReadAs.same.apply ((srcB0_0 b).view.read (Elt F) W)⟩]
/-- A copy under way into a slot. -/
abbrev flightP0_0 (s : Fin 3) (b : Fin 50) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 3) (f : HbBuf0 (F := F) c (rslot0_0 s)) : sProp 𝕄 := iprop(slotP0_0 c s f ∗ wholeP0_0 c W s)
/-- A copy under way, with what it leaves held. -/
abbrev flightW0_0 (s : Fin 3) (b : Fin 50) (f : HbBuf0 (F := F) c (rslot0_0 s)) : sProp 𝕄 := iprop(flightP0_0 c W s b f ∗ restP0_0 c W s b)
/-- Nothing is held for a block at home. -/
abbrev noHome0_0 (b : Fin 50) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] [Named F] in
/-- Slot 0's semaphore at zero, by number. -/
theorem cellP0_0_0 : cellP0_0 (F := F) c 0 = semVal ((c : Thread nD τ), SemLoc.dma 11) 0 := congrArg (fun x => (semVal ((c : Thread nD τ), x) 0 : sProp 𝕄)) cellR0_0_0
omit [FloatOps F] [Named F] in
/-- Slot 1's semaphore at zero, by number. -/
theorem cellP0_0_1 : cellP0_0 (F := F) c 1 = semVal ((c : Thread nD τ), SemLoc.dma 12) 0 := congrArg (fun x => (semVal ((c : Thread nD τ), x) 0 : sProp 𝕄)) cellR0_0_1
omit [FloatOps F] [Named F] in
/-- Slot 2's semaphore at zero, by number. -/
theorem cellP0_0_2 : cellP0_0 (F := F) c 2 = semVal ((c : Thread nD τ), SemLoc.dma 13) 0 := congrArg (fun x => (semVal ((c : Thread nD τ), x) 0 : sProp 𝕄)) cellR0_0_2
end Ring0_0

/-! ### The slots, disjoint and covering the scratch (Lib/Ring.lean `lead_disjoint` / `lead_cover`) -/

/-- The indices a slot covers. -/
abbrev slotSet0_0 (s : Fin 3) : Finset S3x200x10000.Idx := (Rect.unit (s := S3x200x10000) ![s.val, 0, 0] S1x200x10000.size (inb_slot0_0 s)).set
/-- The indices a slot covers, as a rectangle. -/
theorem slotSet0_0_eq (s : Fin 3) : (rslot0_0 s).view.set = slotSet0_0 s := by
  simp only [rslot0_0, Memref.view_squeeze, View.set_reshape]; exact View.set_slice_whole _ _
/-- Two different slots do not meet. -/
theorem slots0_0_disjoint (s s' : Fin 3) (h : s ≠ s') : Disjoint (slotSet0_0 s) (slotSet0_0 s') :=
  Ring.lead_disjoint (s := S3x200x10000) (0 : Fin 3) 1 (fun s : Fin 3 => (![s.val, 0, 0] : Fin 3 → Nat)) S1x200x10000.size inb_slot0_0 (fun s => by simp) rfl s s' h
/-- The three slots cover the landing buffer. -/
theorem slots0_0_cover : Finset.univ.biUnion slotSet0_0 = Finset.univ :=
  Ring.lead_cover (s := S3x200x10000) (0 : Fin 3) 1 (fun s : Fin 3 => (![s.val, 0, 0] : Fin 3 → Nat)) S1x200x10000.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_2)
/-- Holding a slot is holding the landing buffer on the slot's indices. -/
theorem slotP0_0_eq (s : Fin 3) (f) : slotP0_0 (F := F) c s f = (((c : Thread nD τ).loc cc0_scratch4) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 3) (b : Fin 50) : wholeP0_0 (F := F) c W s ⊣⊢ iprop(srcP0_0 c W s b ∗ restP0_0 c W s b) := by
  unfold restP0_0; exact pointsTo_split_subset (Finset.subset_univ _)
/-- the operand whole at the full share is the three copies (halves, the right one halved again). -/
theorem whole0_0_split : (hbPt0 c hbM0_2 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_0_in : iprop(∃ d, owns (c : Thread nD τ) scM0_4 fullShare d) ⊢ (iprop((∃ f, slotP0_0 (F := F) c 0 f) ∗ (∃ f, slotP0_0 (F := F) c 1 f) ∗ ∃ f, slotP0_0 (F := F) c 2 f) : sProp 𝕄) := by
  simp only [scM0_4, owns_whole]
  exact Ring.slots3_split (U := Pipeline.UD sig nD τ) (ℓ := (c : Thread nD τ).loc cc0_scratch4) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
/-- The three slots held make the landing buffer held. -/
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_4 fullShare d) := by
  simp only [scM0_4, owns_whole]
  exact Ring.slots3_join (U := Pipeline.UD sig nD τ) (ℓ := (c : Thread nD τ).loc cc0_scratch4) (q := fullShare) slotSet0_0 slots0_0_disjoint slots0_0_cover
    (slotP0_0 c 0) (slotP0_0 c 1) (slotP0_0 c 2) (slotP0_0_eq c 0) (slotP0_0_eq c 1) (slotP0_0_eq c 2)
end InOut0_0

/-- INTO THE RING: the launch's pieces — the scratch whole, the cells at zero, the operand whole — are the ring before its first step; -/
theorem ring0_0_in (c : Dev nD) :
    iprop((∃ d, owns (c : Thread nD τ) scM0_4 fullShare d) ∗ (semVal ((c : Thread nD τ), SemLoc.dma 11) 0 ∗ semVal ((c : Thread nD τ), SemLoc.dma 12) 0 ∗ semVal ((c : Thread nD τ), SemLoc.dma 13) 0) ∗ hbPt0 c hbM0_2 (V m c main_v2))
      ⊢ ringAt0_0 c (V m c main_v2) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_v2)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_0_out (c : Dev nD) :
    ringAt0_0 c (V m c main_v2) 50
      ⊢ iprop((∃ d, owns (c : Thread nD τ) scM0_4 fullShare d) ∗ (semVal ((c : Thread nD τ), SemLoc.dma 11) 0 ∗ semVal ((c : Thread nD τ), SemLoc.dma 12) 0 ∗ semVal ((c : Thread nD τ), SemLoc.dma 13) 0) ∗ hbPt0 c hbM0_2 (V m c main_v2)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_v2)).2; isplitl [HW0]; · iexact HW0
    isplitl [HW1]; · iexact HW1
    iexact HW2

/-! ### Ring 0's steps at each case's points, and its canonical names: the body's operands at point `t` are the ring's slots, blocks and cells -/

section Canon0_0
omit [FloatOps F] [Named F]
/-- At the points of case A the ring takes its FIRST step. -/
theorem rstep0_0_A : ∀ t : Fin grid0.N, cond0_0 (grid0.coords t) → cond0_1 (grid0.coords t) → ¬cond0_2 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → ¬cond0_2 (grid0.coords t) → 1 ≤ t.val ∧ t.val + 2 < 50 ∧ (t.val + 1) = t.val + 1 := by decide +kernel
/-- At the points of case C the ring takes its LAST step. -/
theorem rstep0_0_C : ∀ t : Fin grid0.N, ¬cond0_0 (grid0.coords t) → ¬cond0_1 (grid0.coords t) → ¬cond0_2 (grid0.coords t) → 1 ≤ t.val ∧ 50 ≤ t.val + 2 ∧ t.val < 50 ∧ (t.val + 1) = t.val + 1 := by decide +kernel
/-- At the points of case D the ring takes its LAST step. -/
theorem rstep0_0_D : ∀ t : Fin grid0.N, ¬cond0_0 (grid0.coords t) → ¬cond0_1 (grid0.coords t) → cond0_2 (grid0.coords t) → 1 ≤ t.val ∧ 50 ≤ t.val + 2 ∧ t.val < 50 ∧ (t.val + 1) = t.val + 1 := by decide +kernel
set_option synthInstance.maxSize 4096 in
/-- The body's ring offset number 1, by the point's number. -/
theorem coff0_0_1 : ∀ t : Fin grid0.N, cond0_0 (grid0.coords t) → cond0_1 (grid0.coords t) → ¬cond0_2 (grid0.coords t) → (![0, 0, 0] : Fin 3 → Nat) = ![(Ring.sl 3 t.val).val, 0, 0] := by decide +kernel
/-- What the body takes at that offset is the ring's own slot, cell or block. -/
@[sl_canon] theorem canon0_0_1 (t : Fin grid0.N) (h0 : cond0_0 (grid0.coords t)) (h1 : cond0_1 (grid0.coords t)) (h2 : ¬cond0_2 (grid0.coords t)) :
    (scM0_4.slice (Rect.unit (s := S3x200x10000) ![0, 0, 0] S1x200x10000.size inb_S3x200x10000_S1x200x10000_0_0_0) (fun _ => rfl)).squeeze S200x10000 squeezes_S1x200x10000_S200x10000 = rslot0_0 (Ring.sl 3 t.val) :=
  congrArg (fun M : Memref sig .tc .vmem S1x200x10000 .f32 => M.squeeze S200x10000 squeezes_S1x200x10000_S200x10000) (Memref.slice_unit_congr _ (coff0_0_1 t h0 h1 h2) _ _ (fun _ => rfl) (fun _ => rfl))
set_option synthInstance.maxSize 4096 in
/-- The body's ring offset number 2, by the point's number. -/
theorem coff0_0_2 : ∀ t : Fin grid0.N, cond0_0 (grid0.coords t) → cond0_1 (grid0.coords t) → ¬cond0_2 (grid0.coords t) → (![0] : Fin 1 → Nat) = ![(Ring.sl 3 t.val).val] := by decide +kernel
/-- What the body takes at that offset is the ring's own slot, cell or block. -/
@[sl_canon] theorem canon0_0_2 (t : Fin grid0.N) (h0 : cond0_0 (grid0.coords t)) (h1 : cond0_1 (grid0.coords t)) (h2 : ¬cond0_2 (grid0.coords t)) :
    (cc0_scratch6.slice (Rect.unit (s := S3) ![0] S1.size inb_S3_S1_0)).squeeze S_ squeezes_S1_S_ = cellA0_0 (Ring.sl 3 t.val) :=
  congrArg (fun A : DmaSems sig S1 => A.squeeze S_ squeezes_S1_S_) (SemArray.slice_unit_congr _ (coff0_0_2 t h0 h1 h2) _ _)
set_option synthInstance.maxSize 4096 in
/-- The body's ring offset number 3, by the point's number. -/
theorem coff0_0_3 : ∀ t : Fin grid0.N, cond0_0 (grid0.coords t) → cond0_1 (grid0.coords t) → ¬cond0_2 (grid0.coords t) → (![0, 0] : Fin 2 → Nat) = ![200 * (Ring.bk 50 t.val).val, 0] := by decide +kernel
/-- What the body takes at that offset is the ring's own slot, cell or block. -/
@[sl_canon] theorem canon0_0_3 (t : Fin grid0.N) (h0 : cond0_0 (grid0.coords t)) (h1 : cond0_1 (grid0.coords t)) (h2 : ¬cond0_2 (grid0.coords t)) :
    hbM0_2.slice (Rect.unit (s := S10000x10000) ![0, 0] S200x10000.size inb_S10000x10000_S200x10000_0_0) (fun _ => rfl) = srcB0_0 (Ring.bk 50 t.val) :=
  congrArg (fun M : Memref sig .tc .hbm S200x10000 .f32 => M) (Memref.slice_unit_congr _ (coff0_0_3 t h0 h1 h2) _ _ (fun _ => rfl) (fun _ => rfl))
set_option synthInstance.maxSize 4096 in
/-- The body's ring offset number 4, by the point's number. -/
theorem coff0_0_4 : ∀ t : Fin grid0.N, cond0_0 (grid0.coords t) → cond0_1 (grid0.coords t) → ¬cond0_2 (grid0.coords t) → (![1, 0, 0] : Fin 3 → Nat) = ![(Ring.sl 3 (t.val + 1)).val, 0, 0] := by decide +kernel
/-- What the body takes at that offset is the ring's own slot, cell or block. -/
@[sl_canon] theorem canon0_0_4 (t : Fin grid0.N) (h0 : cond0_0 (grid0.coords t)) (h1 : cond0_1 (grid0.coords t)) (h2 : ¬cond0_2 (grid0.coords t)) :
    (scM0_4.slice (Rect.unit (s := S3x200x10000) ![1, 0, 0] S1x200x10000.size inb_S3x200x10000_S1x200x10000_1_0_0) (fun _ => rfl)).squeeze S200x10000 squeezes_S1x200x10000_S200x10000 = rslot0_0 (Ring.sl 3 (t.val + 1)) :=
  congrArg (fun M : Memref sig .tc .vmem S1x200x10000 .f32 => M.squeeze S200x10000 squeezes_S1x200x10000_S200x10000) (Memref.slice_unit_congr _ (coff0_0_4 t h0 h1 h2) _ _ (fun _ => rfl) (fun _ => rfl))
set_option synthInstance.maxSize 4096 in
/-- The body's ring offset number 5, by the point's number. -/
theorem coff0_0_5 : ∀ t : Fin grid0.N, cond0_0 (grid0.coords t) → cond0_1 (grid0.coords t) → ¬cond0_2 (grid0.coords t) → (![1] : Fin 1 → Nat) = ![(Ring.sl 3 (t.val + 1)).val] := by decide +kernel
/-- What the body takes at that offset is the ring's own slot, cell or block. -/
@[sl_canon] theorem canon0_0_5 (t : Fin grid0.N) (h0 : cond0_0 (grid0.coords t)) (h1 : cond0_1 (grid0.coords t)) (h2 : ¬cond0_2 (grid0.coords t)) :
    (cc0_scratch6.slice (Rect.unit (s := S3) ![1] S1.size inb_S3_S1_1)).squeeze S_ squeezes_S1_S_ = cellA0_0 (Ring.sl 3 (t.val + 1)) :=
  congrArg (fun A : DmaSems sig S1 => A.squeeze S_ squeezes_S1_S_) (SemArray.slice_unit_congr _ (coff0_0_5 t h0 h1 h2) _ _)
set_option synthInstance.maxSize 4096 in
/-- The body's ring offset number 6, by the point's number. -/
theorem coff0_0_6 : ∀ t : Fin grid0.N, cond0_0 (grid0.coords t) → cond0_1 (grid0.coords t) → ¬cond0_2 (grid0.coords t) → (![200, 0] : Fin 2 → Nat) = ![200 * (Ring.bk 50 (t.val + 1)).val, 0] := by decide +kernel
/-- What the body takes at that offset is the ring's own slot, cell or block. -/
@[sl_canon] theorem canon0_0_6 (t : Fin grid0.N) (h0 : cond0_0 (grid0.coords t)) (h1 : cond0_1 (grid0.coords t)) (h2 : ¬cond0_2 (grid0.coords t)) :
    hbM0_2.slice (Rect.unit (s := S10000x10000) ![200, 0] S200x10000.size inb_S10000x10000_S200x10000_200_0) (fun _ => rfl) = srcB0_0 (Ring.bk 50 (t.val + 1)) :=
  congrArg (fun M : Memref sig .tc .hbm S200x10000 .f32 => M) (Memref.slice_unit_congr _ (coff0_0_6 t h0 h1 h2) _ _ (fun _ => rfl) (fun _ => rfl))
set_option synthInstance.maxSize 4096 in
/-- The body's ring offset number 7, by the point's number. -/
theorem coff0_0_7 : ∀ t : Fin grid0.N, k0_off2 (grid0.coords t) = ![(Ring.sl 3 (t.val + 2)).val, 0, 0] := by decide +kernel
/-- What the body takes at that offset is the ring's own slot, cell or block. -/
@[sl_canon] theorem canon0_0_7 (t : Fin grid0.N) (h1 : cond0_1 (grid0.coords t)) :
    (scM0_4.slice (Rect.unit (s := S3x200x10000) (k0_off2 (grid0.coords t)) S1x200x10000.size (k0_off2_inb (grid0.coords t) h1)) (fun _ => rfl)).squeeze S200x10000 squeezes_S1x200x10000_S200x10000 = rslot0_0 (Ring.sl 3 (t.val + 2)) :=
  congrArg (fun M : Memref sig .tc .vmem S1x200x10000 .f32 => M.squeeze S200x10000 squeezes_S1x200x10000_S200x10000) (Memref.slice_unit_congr _ (coff0_0_7 t ) _ _ (fun _ => rfl) (fun _ => rfl))
set_option synthInstance.maxSize 4096 in
/-- The body's ring offset number 8, by the point's number. -/
theorem coff0_0_8 : ∀ t : Fin grid0.N, k0_off1 (grid0.coords t) = ![(Ring.sl 3 (t.val + 2)).val] := by decide +kernel
/-- What the body takes at that offset is the ring's own slot, cell or block. -/
@[sl_canon] theorem canon0_0_8 (t : Fin grid0.N) (h1 : cond0_1 (grid0.coords t)) :
    (cc0_scratch6.slice (Rect.unit (s := S3) (k0_off1 (grid0.coords t)) S1.size (k0_off1_inb (grid0.coords t) h1))).squeeze S_ squeezes_S1_S_ = cellA0_0 (Ring.sl 3 (t.val + 2)) :=
  congrArg (fun A : DmaSems sig S1 => A.squeeze S_ squeezes_S1_S_) (SemArray.slice_unit_congr _ (coff0_0_8 t ) _ _)
set_option synthInstance.maxSize 4096 in
/-- The body's ring offset number 9, by the point's number. -/
theorem coff0_0_9 : ∀ t : Fin grid0.N, cond0_0 (grid0.coords t) → cond0_1 (grid0.coords t) → ¬cond0_2 (grid0.coords t) → k0_off3 (grid0.coords t) = ![200 * (Ring.bk 50 (t.val + 2)).val, 0] := by decide +kernel
/-- What the body takes at that offset is the ring's own slot, cell or block. -/
@[sl_canon] theorem canon0_0_9 (t : Fin grid0.N) (h0 : cond0_0 (grid0.coords t)) (h1 : cond0_1 (grid0.coords t)) (h2 : ¬cond0_2 (grid0.coords t)) :
    hbM0_2.slice (Rect.unit (s := S10000x10000) (k0_off3 (grid0.coords t)) S200x10000.size (k0_off3_inb (grid0.coords t) h1)) (fun _ => rfl) = srcB0_0 (Ring.bk 50 (t.val + 2)) :=
  congrArg (fun M : Memref sig .tc .hbm S200x10000 .f32 => M) (Memref.slice_unit_congr _ (coff0_0_9 t h0 h1 h2) _ _ (fun _ => rfl) (fun _ => rfl))
set_option synthInstance.maxSize 4096 in
/-- The body's ring offset number 10, by the point's number. -/
theorem coff0_0_10 : ∀ t : Fin grid0.N, k0_off5 (grid0.coords t) = ![(Ring.sl 3 t.val).val, 0, 0] := by decide +kernel
/-- What the body takes at that offset is the ring's own slot, cell or block. -/
@[sl_canon] theorem canon0_0_10 (t : Fin grid0.N) :
    (scM0_4.slice (Rect.unit (s := S3x200x10000) (k0_off5 (grid0.coords t)) S1x200x10000.size (k0_off5_inb (grid0.coords t))) (fun _ => rfl)).squeeze S200x10000 squeezes_S1x200x10000_S200x10000 = rslot0_0 (Ring.sl 3 t.val) :=
  congrArg (fun M : Memref sig .tc .vmem S1x200x10000 .f32 => M.squeeze S200x10000 squeezes_S1x200x10000_S200x10000) (Memref.slice_unit_congr _ (coff0_0_10 t ) _ _ (fun _ => rfl) (fun _ => rfl))
set_option synthInstance.maxSize 4096 in
/-- The body's ring offset number 11, by the point's number. -/
theorem coff0_0_11 : ∀ t : Fin grid0.N, k0_off4 (grid0.coords t) = ![(Ring.sl 3 t.val).val] := by decide +kernel
/-- What the body takes at that offset is the ring's own slot, cell or block. -/
@[sl_canon] theorem canon0_0_11 (t : Fin grid0.N) :
    (cc0_scratch6.slice (Rect.unit (s := S3) (k0_off4 (grid0.coords t)) S1.size (k0_off4_inb (grid0.coords t)))).squeeze S_ squeezes_S1_S_ = cellA0_0 (Ring.sl 3 t.val) :=
  congrArg (fun A : DmaSems sig S1 => A.squeeze S_ squeezes_S1_S_) (SemArray.slice_unit_congr _ (coff0_0_11 t ) _ _)
set_option synthInstance.maxSize 4096 in
/-- The body's ring offset number 12, by the point's number. -/
theorem coff0_0_12 : ∀ t : Fin grid0.N, ¬cond0_0 (grid0.coords t) → cond0_1 (grid0.coords t) → ¬cond0_2 (grid0.coords t) → k0_off3 (grid0.coords t) = ![200 * (Ring.bk 50 (t.val + 2)).val, 0] := by decide +kernel
/-- What the body takes at that offset is the ring's own slot, cell or block. -/
@[sl_canon] theorem canon0_0_12 (t : Fin grid0.N) (h0 : ¬cond0_0 (grid0.coords t)) (h1 : cond0_1 (grid0.coords t)) (h2 : ¬cond0_2 (grid0.coords t)) :
    hbM0_2.slice (Rect.unit (s := S10000x10000) (k0_off3 (grid0.coords t)) S200x10000.size (k0_off3_inb (grid0.coords t) h1)) (fun _ => rfl) = srcB0_0 (Ring.bk 50 (t.val + 2)) :=
  congrArg (fun M : Memref sig .tc .hbm S200x10000 .f32 => M) (Memref.slice_unit_congr _ (coff0_0_12 t h0 h1 h2) _ _ (fun _ => rfl) (fun _ => rfl))
set_option synthInstance.maxSize 4096 in
/-- The body's ring offset number 13, by the point's number. -/
theorem coff0_0_13 : ∀ t : Fin grid0.N, k0_off7 (grid0.coords t) = ![(Ring.sl 3 t.val).val, 0, 0] := by decide +kernel
/-- The ring-memref load's box in the slot's spelling (the block this step waited): the executor's symbolic geometry then sees it inside that slot. -/
instance (priority := high) closedOff0_0_13 (t : Fin grid0.N) : ClosedOff (k0_off7 (grid0.coords t)) := ⟨![(Ring.sl 3 t.val).val, 0, 0], coff0_0_13 t⟩
end Canon0_0

end Cert.KernelIdeal.Tracked

end
-- ==== Proof.KernelBody.lean ====
/- The kernel's body, grid point by grid point, with every value it computes named: what one point leaves in the two
   output blocks, in the stored activations, in the running row sum and (at the last point) in the scores, as a
   function of what the point before left. Stated over any element type. -/
module

public import proofs.«01_k».proof.Proof.KernelRing
public import Idealize.ShloMosaic.Lib.Pipeline.Value
public import Idealize.ShloMosaic.Lib.VecWindow
public import Idealize.ShloMosaic.Lib.ValueIdx

@[expose] public section

set_option maxRecDepth 16384

noncomputable section

namespace Cert.KernelIdeal.Tracked

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The values of one point -/

/-- Two 128-column halves side by side. -/
def halves (a b : Vec F S10000x128 .f32) : Vec F S10000x256 .f32 := fun y =>
  if h : (y 1).val < 128 then a (ix2 (y 0) ⟨(y 1).val, h⟩)
  else b (ix2 (y 0) ⟨(y 1).val - 128, by have := idx2_lt1 y; omega⟩)

/-- The feature matrix both sequences are projected to: `[s1·w | s2·w]`, 256 columns. -/
def feats (w : Vec F S128x128 .f32) (s1 s2 : Vec F S10000x128 .f32) : Vec F S10000x256 .f32 :=
  halves (k0_pay9 w s1) (k0_pay10 w s2)

/-- `y` with the 200 rows from row `200·t` on replaced by `h`. -/
def putRows (t : ℕ) (h : Vec F S200x256 .f32) (y : Vec F S10000x256 .f32) : Vec F S10000x256 .f32 := fun i =>
  if hi : 200 * t ≤ (i 0).val ∧ (i 0).val < 200 * t + 200 then h (ix2 ⟨(i 0).val - 200 * t, by omega⟩ (i 1)) else y i

/-- The left 128 columns. -/
def colsL (y : Vec F S10000x256 .f32) : Vec F S10000x128 .f32 := fun i =>
  y (ix2 (i 0) ⟨(i 1).val, by have := idx2_lt1 i; omega⟩)
/-- The right 128 columns. -/
def colsR (y : Vec F S10000x256 .f32) : Vec F S10000x128 .f32 := fun i =>
  y (ix2 (i 0) ⟨128 + (i 1).val, by have := idx2_lt1 i; omega⟩)

/-- The two columns of scores, from the row sum `ps`, the bilinear form `wb`, the activations `y` and the bias `bb`. -/
def scores (ps : Vec F S1x128 .f32) (wb : Vec F S128x128 .f32) (y : Vec F S10000x256 .f32) (bb : Vec F S1x1 .f32) :
    Vec F S10000x2 .f32 := fun i =>
  if (i 1).val = 0 then k0_pay6 ps wb (colsL y) bb (ix2 (i 0) 0) else k0_pay7 ps wb (colsR y) bb (ix2 (i 0) 0)

/-- A 200-row block with a leading unit axis. -/
def lead (x : Vec F S200x10000 .f32) : Vec F S1x200x10000 .f32 := fun y => x (ix2 (y 1) (y 2))

/-- Rows `[200·b, 200·b + 200)` of the adjacency matrix, as the ring's block `b` reads them. -/
def adjRows (c : Dev nD) (A : HbBuf0 (F := F) c hbM0_2) (b : Fin 50) : Vec F S200x10000 .f32 :=
  (srcB0_0 b).view.read (Elt F) A

/-! ## What the loads and stores of the body read -/

/-- The offset of point `t`'s rows in the stored activations. -/
theorem off8_eq : ∀ t : Fin grid0.N, k0_off8 (grid0.coords t) = ![200 * t.val, 0] := by decide +kernel

/-- A load at offset zero of a buffer's own extents reads the buffer. -/
theorem readAt_unread_full {κ : Kind} {sp : Space} {s : Shape} {m : Memref sig κ sp s .f32} (hm : m.IsWhole)
    (x : Vec F s .f32) {off : Fin s.rank → ℕ} (inb : ∀ a, off a + s.size a ≤ s.size a) :
    View.readAt (Elt F) m.view (Rect.unit off s.size inb).toLoadRect (hm.unread x) = x := by
  rw [View.readAt_full]; exact hm.read_unread x

/-- A slot's load after its block landed: the block, with a leading unit axis. -/
theorem readAt_slot (t : Fin grid0.N) (inb : ∀ a, k0_off7 (grid0.coords t) a + S1x200x10000.size a ≤ S3x200x10000.size a)
    (f : (rslot0_0 (Ring.sl 3 t.val)).view.ty.Contents (Elt F)) (x : Vec F S200x10000 .f32) :
    View.readAt (Elt F) scM0_4.view (Rect.unit (s := S3x200x10000) (k0_off7 (grid0.coords t)) S1x200x10000.size inb).toLoadRect
      ((rslot0_0 (Ring.sl 3 t.val)).view.writes (Elt F) f [⟨Rect.whole S200x10000, x⟩]) = lead x := by
  set g := (rslot0_0 (Ring.sl 3 t.val)).view.writes (Elt F) f [⟨Rect.whole S200x10000, x⟩] with hg
  have h1 : (rslot0_0 (Ring.sl 3 t.val)).view.read (Elt F) g = x :=
    View.read_writes_full _ f (fun _ => by simp) x []
  have hc : (Rect.unit (s := S3x200x10000) ![(Ring.sl 3 t.val).val, 0, 0] S1x200x10000.size (inb_slot0_0 _)).shape.ShapeCasts S200x10000 :=
    shapeCasts_S1x200x10000_S200x10000
  have h2 : (rslot0_0 (Ring.sl 3 t.val)).view.read (Elt F) g
      = shapeCast S200x10000 (scM0_4.view.readAt (Elt F)
          (Rect.unit (s := S3x200x10000) ![(Ring.sl 3 t.val).val, 0, 0] S1x200x10000.size (inb_slot0_0 _)).toLoadRect g) hc :=
    Memref.read_squeeze_slice scM0_4 _ (fun _ => rfl) squeezes_S1x200x10000_S200x10000 hc g
  refine (View.readAt_unit_congr scM0_4.view (coff0_0_13 t) inb (inb_slot0_0 _) _).trans ?_
  funext y
  have h3 := congrFun (h2.symm.trans h1) (ix2 (y 1) (y 2))
  refine Eq.trans ?_ h3
  refine (shapeCast_apply _ hc (ix2 (y 1) (y 2)) y ?_).symm
  have hy0 : (y 0).val = 0 := by have := (y 0).isLt; exact Nat.lt_one_iff.mp this
  refine (Shape.rowMajor_val_three (d := ![1, 200, 10000]) y).trans (Eq.trans ?_ (Shape.rowMajor_val_two (d := ![200, 10000]) _).symm)
  show ((y 0).val * 200 + (y 1).val) * 10000 + (y 2).val = (y 1).val * 10000 + (y 2).val
  rw [hy0]; omega

/-- Two stores of 128 columns each are the two halves. -/
theorem read_halves {κ : Kind} {sp : Space} (v : View sig κ sp S10000x256 .f32) (f : v.ty.Contents (Elt F))
    (a b : Vec F S10000x128 .f32) (inb : ∀ i, (![0, 128] : Fin 2 → ℕ) i + S10000x128.size i ≤ S10000x256.size i)
    (inb' : ∀ i, (![0, 0] : Fin 2 → ℕ) i + S10000x128.size i ≤ S10000x256.size i) :
    v.read (Elt F) (v.writes (Elt F) f [⟨Rect.unit (s := S10000x256) ![0, 128] S10000x128.size inb, b⟩,
      ⟨Rect.unit (s := S10000x256) ![0, 0] S10000x128.size inb', a⟩]) = halves a b := by
  funext y
  by_cases h : (y 1).val < 128
  · rw [View.read_writes_cons_unit_of_not_mem v f inb b _ y rfl 1 (.inl h)]
    refine (View.read_writes_cons_unit_of_mem v f inb' a [] y (ix2 (y 0) ⟨(y 1).val, h⟩) rfl
      (Fin.forall_fin_two.mpr ⟨(Nat.zero_add _).symm, (Nat.zero_add _).symm⟩)).trans ?_
    unfold halves; rw [dif_pos h]
  · have h2 := idx2_lt1 y
    refine (View.read_writes_cons_unit_of_mem v f inb b _ y (ix2 (y 0) ⟨(y 1).val - 128, by omega⟩) rfl
      (Fin.forall_fin_two.mpr ⟨(Nat.zero_add _).symm, ?_⟩)).trans ?_
    · show (y 1).val = 128 + ((y 1).val - 128); omega
    unfold halves; rw [dif_neg h]

/-- Two stores of one column each are the two columns of scores. -/
theorem read_two_cols {κ : Kind} {sp : Space} (v : View sig κ sp S10000x2 .f32) (f : v.ty.Contents (Elt F))
    (a b : Vec F S10000x1 .f32) (inb : ∀ i, (![0, 1] : Fin 2 → ℕ) i + S10000x1.size i ≤ S10000x2.size i)
    (inb' : ∀ i, (![0, 0] : Fin 2 → ℕ) i + S10000x1.size i ≤ S10000x2.size i) :
    v.read (Elt F) (v.writes (Elt F) f [⟨Rect.unit (s := S10000x2) ![0, 1] S10000x1.size inb, b⟩,
      ⟨Rect.unit (s := S10000x2) ![0, 0] S10000x1.size inb', a⟩])
      = fun i => if (i 1).val = 0 then a (ix2 (i 0) 0) else b (ix2 (i 0) 0) := by
  funext y
  have h2 := idx2_lt1 y
  by_cases h : (y 1).val = 0
  · rw [View.read_writes_cons_unit_of_not_mem v f inb b _ y rfl 1 (.inl (by show (y 1).val < 1; omega))]
    refine (View.read_writes_cons_unit_of_mem v f inb' a [] y (ix2 (y 0) 0) rfl
      (Fin.forall_fin_two.mpr ⟨(Nat.zero_add _).symm, h⟩)).trans ?_
    rw [if_pos h]
  · refine (View.read_writes_cons_unit_of_mem v f inb b _ y (ix2 (y 0) 0) rfl
      (Fin.forall_fin_two.mpr ⟨(Nat.zero_add _).symm, ?_⟩)).trans ?_
    · show (y 1).val = 1 + 0; omega
    rw [if_neg h]

/-- A store of 200 whole rows over contents that read `y` leaves `putRows`. -/
theorem read_putRows (t : Fin grid0.N) {m : Memref sig .tc .vmem S10000x256 .f32} (hm : m.IsWhole) (y : Vec F S10000x256 .f32)
    (h : Vec F S200x256 .f32) (inb : ∀ a, k0_off8 (grid0.coords t) a + S200x256.size a ≤ S10000x256.size a) :
    m.view.read (Elt F) (m.view.writes (Elt F) (hm.unread y)
      [⟨Rect.unit (s := S10000x256) (k0_off8 (grid0.coords t)) S200x256.size inb, h⟩]) = putRows t.val h y := by
  funext i
  rw [View.read_writes_cons_rows m.view _ (o := 200 * t.val) (W := 200) inb h [] i (off8_eq t) rfl rfl]
  unfold putRows
  by_cases hi : 200 * t.val ≤ (i 0).val ∧ (i 0).val < 200 * t.val + 200
  · rw [dif_pos hi, dif_pos hi]
    refine congrArg h (funext fun a => Fin.ext ?_)
    rw [Rect.unitLocal_val]
    match a with
    | ⟨0, _⟩ => rfl
    | ⟨1, _⟩ => exact Nat.sub_zero _
  · rw [dif_neg hi, dif_neg hi]
    exact congrFun (hm.read_unread y) i

/-- A load of the left 128 columns reads the left columns of what the buffer reads; -/
theorem readAt_colsL {κ : Kind} {sp : Space} (v : View sig κ sp S10000x256 .f32) (f : v.ty.Contents (Elt F))
    (inb : ∀ a, (![0, 0] : Fin 2 → ℕ) a + S10000x128.size a ≤ S10000x256.size a) :
    View.readAt (Elt F) v (Rect.unit (s := S10000x256) ![0, 0] S10000x128.size inb).toLoadRect f = colsL (v.read (Elt F) f) := by
  funext y
  refine congrArg (v.read (Elt F) f) (funext fun a => Fin.ext ?_)
  match a with
  | ⟨0, _⟩ => show 0 + 1 * (y 0).val = (y 0).val; omega
  | ⟨1, _⟩ => show 0 + 1 * (y 1).val = (y 1).val; omega
/-- and of the right 128, the right ones. -/
theorem readAt_colsR {κ : Kind} {sp : Space} (v : View sig κ sp S10000x256 .f32) (f : v.ty.Contents (Elt F))
    (inb : ∀ a, (![0, 128] : Fin 2 → ℕ) a + S10000x128.size a ≤ S10000x256.size a) :
    View.readAt (Elt F) v (Rect.unit (s := S10000x256) ![0, 128] S10000x128.size inb).toLoadRect f = colsR (v.read (Elt F) f) := by
  funext y
  refine congrArg (v.read (Elt F) f) (funext fun a => Fin.ext ?_)
  match a with
  | ⟨0, _⟩ => show 0 + 1 * (y 0).val = (y 0).val; omega
  | ⟨1, _⟩ => show 128 + 1 * (y 1).val = 128 + (y 1).val; omega

/-- A load of a whole buffer just filled by a copy reads what was copied. -/
theorem readAt_writes_whole {κ : Kind} {sp : Space} {s : Shape} (v : View sig κ sp s .f32) (f : v.ty.Contents (Elt F))
    (x : Vec F s .f32) (L : List (View.Piece (Elt F) s .f32)) {off : Fin s.rank → ℕ} (inb : ∀ a, off a + s.size a ≤ s.size a) :
    View.readAt (Elt F) v (Rect.unit off s.size inb).toLoadRect (v.writes (Elt F) f (⟨Rect.whole s, x⟩ :: L)) = x :=
  View.readAt_writes_full v f inb (fun _ => by simp) x L

/-- One point's activations depend on its operands only through their values; -/
theorem pay13_congr {a a' : Vec F S1x200x10000 .f32} {s s' : Vec F S10000x256 .f32} {b b' : Vec F S1x256 .f32} {p p' : Vec F S1x1 .f32}
    (ha : a = a') (hs : s = s') (hb : b = b') (hp : p = p') : k0_pay13 a s b p = k0_pay13 a' s' b' p' := by
  subst ha hs hb hp; rfl
/-- likewise the left half of them, -/
theorem pay14_congr {a a' : Vec F S1x200x10000 .f32} {s s' : Vec F S10000x256 .f32} {b b' : Vec F S1x256 .f32} {p p' : Vec F S1x1 .f32}
    (ha : a = a') (hs : s = s') (hb : b = b') (hp : p = p') : k0_pay14 a s b p = k0_pay14 a' s' b' p' := by
  subst ha hs hb hp; rfl
/-- the running row sum, -/
theorem pay4_congr {h h' : Vec F S200x128 .f32} {p p' : Vec F S1x128 .f32} (hh : h = h') (hp : p = p') :
    k0_pay4 h p = k0_pay4 h' p' := by
  subst hh hp; rfl
/-- and the scores. -/
theorem scores_congr {p p' p'' : Vec F S1x128 .f32} {w w' w'' : Vec F S128x128 .f32} {u v : Vec F S10000x128 .f32}
    {y : Vec F S10000x256 .f32} {b b' b'' : Vec F S1x1 .f32} (hp : p' = p) (hw : w' = w) (hu : u = colsL y) (hb : b' = b)
    (hp' : p'' = p) (hw' : w'' = w) (hv : v = colsR y) (hb' : b'' = b) :
    (fun i : S10000x2.Idx => if (i 1).val = 0 then k0_pay6 p' w' u b' (ix2 (i 0) 0) else k0_pay7 p'' w'' v b'' (ix2 (i 0) 0))
      = scores p w y b := by
  subst hp hw hu hb hp' hw' hv hb'; rfl
/-- The two halves, each computed from its sequence, are the feature matrix. -/
theorem feats_congr {w : Vec F S128x128 .f32} {s1 s2 a b : Vec F S10000x128 .f32} (ha : a = k0_pay9 w s1) (hb : b = k0_pay10 w s2) :
    halves a b = feats w s1 s2 := by
  subst ha hb; rfl
/-- A load of the whole feature matrix after its two halves were stored. -/
theorem readCov_feats {κ : Kind} {sp : Space} (v : View sig κ sp S10000x256 .f32) {w : Vec F S128x128 .f32}
    {s1 s2 a b : Vec F S10000x128 .f32} (inb : ∀ i, (![0, 128] : Fin 2 → ℕ) i + S10000x128.size i ≤ S10000x256.size i)
    (inb' : ∀ i, (![0, 0] : Fin 2 → ℕ) i + S10000x128.size i ≤ S10000x256.size i) {off : Fin 2 → ℕ}
    (inb'' : ∀ i, off i + S10000x256.size i ≤ S10000x256.size i) (ha : a = k0_pay9 w s1) (hb : b = k0_pay10 w s2) :
    v.readCov [⟨Rect.unit (s := S10000x256) ![0, 128] S10000x128.size inb, b⟩,
      ⟨Rect.unit (s := S10000x256) ![0, 0] S10000x128.size inb', a⟩] (Rect.unit (s := S10000x256) off S10000x256.size inb'').toLoadRect
      = feats w s1 s2 := by
  unfold View.readCov
  rw [View.readAt_full, read_halves]
  exact feats_congr ha hb
/-- A load of the whole of a buffer filled last by a copy, read back within the run. -/
theorem readCov_whole {κ : Kind} {sp : Space} {s : Shape} (v : View sig κ sp s .f32) (x : Vec F s .f32)
    (L : List (View.Piece (Elt F) s .f32)) {off : Fin s.rank → ℕ} (inb : ∀ a, off a + s.size a ≤ s.size a) :
    v.readCov (⟨Rect.whole s, x⟩ :: L) (Rect.unit off s.size inb).toLoadRect = x :=
  View.readAt_writes_full v _ inb (fun _ => by simp) x L
/-- A load of the whole of a buffer stored whole reads what was stored. -/
theorem readCov_store {κ : Kind} {sp : Space} {s : Shape} (v : View sig κ sp s .f32) (x : Vec F s .f32)
    (L : List (View.Piece (Elt F) s .f32)) {off off' : Fin s.rank → ℕ} (inb : ∀ a, off a + s.size a ≤ s.size a)
    (inb' : ∀ a, off' a + s.size a ≤ s.size a) :
    v.readCov (⟨Rect.unit off' s.size inb', x⟩ :: L) (Rect.unit off s.size inb).toLoadRect = x :=
  View.readAt_writes_full v _ inb inb' x L

end Cert.KernelIdeal.Tracked

end
-- ==== Proof.KernelRunFirst.lean ====
/- The kernel's body at the first grid point, which fills the feature matrix and clears the row sum: its triple, every buffer's final contents named. -/
module

public import proofs.«01_k».proof.Proof.KernelBody

@[expose] public section

set_option maxRecDepth 16384

noncomputable section

namespace Cert.KernelIdeal.Tracked

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
/-- The body at the first grid point, which fills the feature matrix and clears the row sum. Its arrays are read as they lie: the five blocks `x0 … x4`, the two sequences `fh0`, `fh1`, and
    the adjacency matrix `fh2` by way of the ring, whose block for this point has landed (or is waited for here). -/
theorem runFirst (c : Dev nD) (t : Fin cfg0.N) (arg3 : Memref sig .tc .vmem S128x128 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S128x128 .f32) (harg6 : arg6.IsWhole) (arg7 : Memref sig .tc .vmem S1x1 .f32) (harg7 : arg7.IsWhole) (arg9 : Memref sig .tc .vmem S1x200x128 .f32) (harg9 : arg9.IsWhole) (arg10 : Memref sig .tc .vmem S1x200x128 .f32) (harg10 : arg10.IsWhole) (arg11 : Memref sig .tc .vmem S10000x2 .f32) (harg11 : arg11.IsWhole) (arg12 : Memref sig .tc .vmem S10000x256 .f32) (harg12 : arg12.IsWhole) (arg13 : Memref sig .tc .vmem S10000x256 .f32) (harg13 : arg13.IsWhole) (arg14 : Memref sig .tc .vmem S1x128 .f32) (harg14 : arg14.IsWhole) (arg15 : Memref sig .tc .vmem S10000x128 .f32) (harg15 : arg15.IsWhole)
    (hc0 : cond0_0 (grid0.coords t)) (hc1 : cond0_1 (grid0.coords t)) (hc2 : ¬cond0_2 (grid0.coords t))
    (x0 : Vec F S128x128 .f32) (x1 : Vec F S1x256 .f32) (x2 : Vec F S1x1 .f32) (x3 : Vec F S128x128 .f32) (x4 : Vec F S1x1 .f32) (y0 y1 : Vec F S10000x256 .f32) (ps : Vec F S1x128 .f32) (v7 : Vec F S10000x2 .f32) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg9 fullShare d) ∗ (∃ d, owns (c : Thread nD τ) arg10 fullShare d) ∗ owns (c : Thread nD τ) arg11 fullShare v7 ∗ owns (c : Thread nD τ) arg12 fullShare y0 ∗ owns (c : Thread nD τ) arg13 fullShare y1 ∗ owns (c : Thread nD τ) arg14 fullShare ps ∗ (∃ d, owns (c : Thread nD τ) arg15 fullShare d) ∗ semVal ((c : Thread nD τ), SemLoc.dma 10) 0 ∗ hbPt0 c hbM0_0 fh0 ∗ hbPt0 c hbM0_1 fh1 ∗ Ring.free (cellP0_0 c) (slotW0_0 c fh2) (Ring.sl 3 t.val) ∗ Ring.free (cellP0_0 c) (slotW0_0 c fh2) (Ring.sl 3 (t.val + 1)) ∗ Ring.free (cellP0_0 c) (slotW0_0 c fh2) (Ring.sl 3 (t.val + 2)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare (k0_pay1 (k0_pay14 (lead (adjRows c fh2 (Ring.bk 50 t.val))) (feats x0 ((Memref.whole main_v0).view.read (Elt F) fh0) ((Memref.whole main_v1).view.read (Elt F) fh1)) x1 x2)) ∗ owns (c : Thread nD τ) arg10 fullShare (k0_pay2 (k0_pay13 (lead (adjRows c fh2 (Ring.bk 50 t.val))) (feats x0 ((Memref.whole main_v0).view.read (Elt F) fh0) ((Memref.whole main_v1).view.read (Elt F) fh1)) x1 x2)) ∗ owns (c : Thread nD τ) arg11 fullShare v7 ∗ owns (c : Thread nD τ) arg12 fullShare (feats x0 ((Memref.whole main_v0).view.read (Elt F) fh0) ((Memref.whole main_v1).view.read (Elt F) fh1)) ∗ owns (c : Thread nD τ) arg13 fullShare (putRows t.val (k0_pay3 (k0_pay13 (lead (adjRows c fh2 (Ring.bk 50 t.val))) (feats x0 ((Memref.whole main_v0).view.read (Elt F) fh0) ((Memref.whole main_v1).view.read (Elt F) fh1)) x1 x2)) y1) ∗ owns (c : Thread nD τ) arg14 fullShare (k0_pay4 (k0_pay14 (lead (adjRows c fh2 (Ring.bk 50 t.val))) (feats x0 ((Memref.whole main_v0).view.read (Elt F) fh0) ((Memref.whole main_v1).view.read (Elt F) fh1)) x1 x2) (k0_pay12 (k0_pay11 (F := F)))) ∗ (∃ d, owns (c : Thread nD τ) arg15 fullShare d) ∗ semVal ((c : Thread nD τ), SemLoc.dma 10) 0 ∗ hbPt0 c hbM0_0 fh0 ∗ hbPt0 c hbM0_1 fh1 ∗ Ring.inflight (flightW0_0 c fh2) (Ring.sl 3 (t.val + 1)) (Ring.bk 50 (t.val + 1)) ∗ Ring.inflight (flightW0_0 c fh2) (Ring.sl 3 (t.val + 2)) (Ring.bk 50 (t.val + 2)) ∗ Ring.free (cellP0_0 c) (slotW0_0 c fh2) (Ring.sl 3 t.val) ∗ (∃ W', owes (c : Thread nD τ) 0 W')) -∗ K ⟨⟩))
          ⊢ wp frame (wpE (defs₀ (F := F)) Variants.none c none) Set.univ (cc0__dgi_body (grid0.coords t) (Memref.whole main_v0) (Memref.isWhole_whole _) (Memref.whole main_v1) (Memref.isWhole_whole _) arg3 harg3 arg4 harg4 arg5 harg5 arg6 harg6 arg7 harg7 (Memref.whole main_v2) (Memref.isWhole_whole _) arg9 harg9 arg10 harg10 arg11 harg11 arg12 harg12 arg13 harg13 arg14 harg14 arg15 harg15 scM0_4 (Memref.isWhole_whole _) cc0_scratch5 cc0_scratch6) K := by
    intro W K
    haveI : Fact (cond0_0 (grid0.coords t)) := ⟨hc0⟩
    haveI : Fact (cond0_1 (grid0.coords t)) := ⟨hc1⟩
    haveI : Fact (¬cond0_2 (grid0.coords t)) := ⟨hc2⟩
    simp only [cc0__dgi_body_eq_skeleton]; unfold cc0__dgi_body_skel
    simp only [k0_part2_eq_skeleton, k0_part1_eq_skeleton]
    have hcanon0 := canon0_0_1 t hc0 hc1 hc2
    have hcanon1 := canon0_0_2 t hc0 hc1 hc2
    have hcanon2 := canon0_0_3 t hc0 hc1 hc2
    have hcanon3 := canon0_0_4 t hc0 hc1 hc2
    have hcanon4 := canon0_0_5 t hc0 hc1 hc2
    have hcanon5 := canon0_0_6 t hc0 hc1 hc2
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, -, HS0⟩, ⟨%fs1, %hfs1, HS1⟩, ⟨%fs2, -, HS2⟩, ⟨%ds3, %fs3, -, HS3⟩, Hq0, Hh0, Hh1, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, HW, Hk⟩
    ihave Hsp0_0_0 := (src0_0_split c fh2 (Ring.sl 3 t.val) (Ring.bk 50 t.val)).1 $$ Hw0_0_0
    icases Hsp0_0_0 with ⟨Hh0_0_0, Hr0_0_0⟩
    ihave Hsp0_0_1 := (src0_0_split c fh2 (Ring.sl 3 (t.val + 1)) (Ring.bk 50 (t.val + 1))).1 $$ Hw0_0_1
    icases Hsp0_0_1 with ⟨Hh0_0_1, Hr0_0_1⟩
    ihave Hsp0_0_2 := (src0_0_split c fh2 (Ring.sl 3 (t.val + 2)) (Ring.bk 50 (t.val + 2))).1 $$ Hw0_0_2
    icases Hsp0_0_2 with ⟨Hh0_0_2, Hr0_0_2⟩
    obtain rfl := harg3.eq_unread hf0; obtain rfl := harg4.eq_unread hf1; obtain rfl := harg5.eq_unread hf2; obtain rfl := harg6.eq_unread hf3; obtain rfl := harg7.eq_unread hf4; obtain rfl := harg13.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro; sl_unfold_run_names; exact (View.read_writes_full _ _ _ _ _).trans (congrArg k0_pay1 (pay14_congr (readAt_slot t _ _ _) (readCov_feats _ _ _ _ (congrArg₂ k0_pay9 (readAt_unread_full harg3 x0 _) (readCov_whole _ _ _ _)) (congrArg₂ k0_pay10 (readAt_unread_full harg3 x0 _) (readCov_whole _ _ _ _))) (readAt_unread_full harg4 x1 _) (readAt_unread_full harg5 x2 _)))
    isplitl [H6]
    · iexists _; isplitr; swap; · iexact H6
      ipureintro; sl_unfold_run_names; exact (View.read_writes_full _ _ _ _ _).trans (congrArg k0_pay2 (pay13_congr (readAt_slot t _ _ _) (readCov_feats _ _ _ _ (congrArg₂ k0_pay9 (readAt_unread_full harg3 x0 _) (readCov_whole _ _ _ _)) (congrArg₂ k0_pay10 (readAt_unread_full harg3 x0 _) (readCov_whole _ _ _ _))) (readAt_unread_full harg4 x1 _) (readAt_unread_full harg5 x2 _)))
    isplitl [H7]
    · iexists _; isplitr; swap; · iexact H7
      ipureintro; exact hf7
    isplitl [HS0]
    · iexists _; isplitr; swap; · iexact HS0
      ipureintro; sl_unfold_run_names; exact (read_halves _ _ _ _ _ _).trans (feats_congr (congrArg₂ k0_pay9 (readAt_unread_full harg3 x0 _) (readCov_whole _ _ _ _)) (congrArg₂ k0_pay10 (readAt_unread_full harg3 x0 _) (readCov_whole _ _ _ _)))
    isplitl [HS1]
    · iexists _; isplitr; swap; · iexact HS1
      ipureintro; sl_unfold_run_names; exact (read_putRows t harg13 y1 _ _).trans (congrArg (fun h => putRows t.val (k0_pay3 h) y1) (pay13_congr (readAt_slot t _ _ _) (readCov_feats _ _ _ _ (congrArg₂ k0_pay9 (readAt_unread_full harg3 x0 _) (readCov_whole _ _ _ _)) (congrArg₂ k0_pay10 (readAt_unread_full harg3 x0 _) (readCov_whole _ _ _ _))) (readAt_unread_full harg4 x1 _) (readAt_unread_full harg5 x2 _)))
    isplitl [HS2]
    · iexists _; isplitr; swap; · iexact HS2
      ipureintro; sl_unfold_run_names; exact (View.read_writes_full _ _ _ _ _).trans (pay4_congr (pay14_congr (readAt_slot t _ _ _) (readCov_feats _ _ _ _ (congrArg₂ k0_pay9 (readAt_unread_full harg3 x0 _) (readCov_whole _ _ _ _)) (congrArg₂ k0_pay10 (readAt_unread_full harg3 x0 _) (readCov_whole _ _ _ _))) (readAt_unread_full harg4 x1 _) (readAt_unread_full harg5 x2 _)) (readCov_store _ _ _ _ _))
    isplitl [HS3]
    · iexists _, _; isplitr; swap; · iexact HS3
      ipureintro; rfl
    isplitl [Hq0]; · iexact Hq0
    isplitl [Hh0]; · iexact Hh0
    isplitl [Hh1]; · iexact Hh1
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh2 (Ring.sl 3 t.val) (Ring.bk 50 t.val)).2; isplitl [Hh0_0_0]; · iexact Hh0_0_0
      iexact Hr0_0_0
    iexists _; iexact HW

end Cert.KernelIdeal.Tracked

end
-- ==== Proof.KernelRunMiddle.lean ====
/- The kernel's body at a grid point that starts a copy two blocks ahead: its triple, every buffer's final contents named. -/
module

public import proofs.«01_k».proof.Proof.KernelRunFirst

@[expose] public section

set_option maxRecDepth 16384

noncomputable section

namespace Cert.KernelIdeal.Tracked

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
/-- The body at a grid point that starts a copy two blocks ahead. Its arrays are read as they lie: the five blocks `x0 … x4`, the two sequences `fh0`, `fh1`, and
    the adjacency matrix `fh2` by way of the ring, whose block for this point has landed (or is waited for here). -/
theorem runMiddle (c : Dev nD) (t : Fin cfg0.N) (arg3 : Memref sig .tc .vmem S128x128 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S128x128 .f32) (harg6 : arg6.IsWhole) (arg7 : Memref sig .tc .vmem S1x1 .f32) (harg7 : arg7.IsWhole) (arg9 : Memref sig .tc .vmem S1x200x128 .f32) (harg9 : arg9.IsWhole) (arg10 : Memref sig .tc .vmem S1x200x128 .f32) (harg10 : arg10.IsWhole) (arg11 : Memref sig .tc .vmem S10000x2 .f32) (harg11 : arg11.IsWhole) (arg12 : Memref sig .tc .vmem S10000x256 .f32) (harg12 : arg12.IsWhole) (arg13 : Memref sig .tc .vmem S10000x256 .f32) (harg13 : arg13.IsWhole) (arg14 : Memref sig .tc .vmem S1x128 .f32) (harg14 : arg14.IsWhole) (arg15 : Memref sig .tc .vmem S10000x128 .f32) (harg15 : arg15.IsWhole)
    (hc0 : ¬cond0_0 (grid0.coords t)) (hc1 : cond0_1 (grid0.coords t)) (hc2 : ¬cond0_2 (grid0.coords t))
    (x0 : Vec F S128x128 .f32) (x1 : Vec F S1x256 .f32) (x2 : Vec F S1x1 .f32) (x3 : Vec F S128x128 .f32) (x4 : Vec F S1x1 .f32) (y0 y1 : Vec F S10000x256 .f32) (ps : Vec F S1x128 .f32) (v7 : Vec F S10000x2 .f32) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg9 fullShare d) ∗ (∃ d, owns (c : Thread nD τ) arg10 fullShare d) ∗ owns (c : Thread nD τ) arg11 fullShare v7 ∗ owns (c : Thread nD τ) arg12 fullShare y0 ∗ owns (c : Thread nD τ) arg13 fullShare y1 ∗ owns (c : Thread nD τ) arg14 fullShare ps ∗ (∃ d, owns (c : Thread nD τ) arg15 fullShare d) ∗ semVal ((c : Thread nD τ), SemLoc.dma 10) 0 ∗ hbPt0 c hbM0_0 fh0 ∗ hbPt0 c hbM0_1 fh1 ∗ Ring.inflight (flightW0_0 c fh2) (Ring.sl 3 t.val) (Ring.bk 50 t.val) ∗ Ring.inflight (flightW0_0 c fh2) (Ring.sl 3 (t.val + 1)) (Ring.bk 50 (t.val + 1)) ∗ Ring.free (cellP0_0 c) (slotW0_0 c fh2) (Ring.sl 3 (t.val + 2)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare (k0_pay1 (k0_pay14 (lead (adjRows c fh2 (Ring.bk 50 t.val))) y0 x1 x2)) ∗ owns (c : Thread nD τ) arg10 fullShare (k0_pay2 (k0_pay13 (lead (adjRows c fh2 (Ring.bk 50 t.val))) y0 x1 x2)) ∗ owns (c : Thread nD τ) arg11 fullShare v7 ∗ owns (c : Thread nD τ) arg12 fullShare y0 ∗ owns (c : Thread nD τ) arg13 fullShare (putRows t.val (k0_pay3 (k0_pay13 (lead (adjRows c fh2 (Ring.bk 50 t.val))) y0 x1 x2)) y1) ∗ owns (c : Thread nD τ) arg14 fullShare (k0_pay4 (k0_pay14 (lead (adjRows c fh2 (Ring.bk 50 t.val))) y0 x1 x2) ps) ∗ (∃ d, owns (c : Thread nD τ) arg15 fullShare d) ∗ semVal ((c : Thread nD τ), SemLoc.dma 10) 0 ∗ hbPt0 c hbM0_0 fh0 ∗ hbPt0 c hbM0_1 fh1 ∗ Ring.inflight (flightW0_0 c fh2) (Ring.sl 3 (t.val + 1)) (Ring.bk 50 (t.val + 1)) ∗ Ring.inflight (flightW0_0 c fh2) (Ring.sl 3 (t.val + 2)) (Ring.bk 50 (t.val + 2)) ∗ Ring.free (cellP0_0 c) (slotW0_0 c fh2) (Ring.sl 3 t.val) ∗ (∃ W', owes (c : Thread nD τ) 0 W')) -∗ K ⟨⟩))
          ⊢ wp frame (wpE (defs₀ (F := F)) Variants.none c none) Set.univ (cc0__dgi_body (grid0.coords t) (Memref.whole main_v0) (Memref.isWhole_whole _) (Memref.whole main_v1) (Memref.isWhole_whole _) arg3 harg3 arg4 harg4 arg5 harg5 arg6 harg6 arg7 harg7 (Memref.whole main_v2) (Memref.isWhole_whole _) arg9 harg9 arg10 harg10 arg11 harg11 arg12 harg12 arg13 harg13 arg14 harg14 arg15 harg15 scM0_4 (Memref.isWhole_whole _) cc0_scratch5 cc0_scratch6) K := by
    intro W K
    haveI : Fact (¬cond0_0 (grid0.coords t)) := ⟨hc0⟩
    haveI : Fact (cond0_1 (grid0.coords t)) := ⟨hc1⟩
    haveI : Fact (¬cond0_2 (grid0.coords t)) := ⟨hc2⟩
    simp only [cc0__dgi_body_eq_skeleton]; unfold cc0__dgi_body_skel
    simp only [k0_part2_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, ⟨%fs1, %hfs1, HS1⟩, ⟨%fs2, %hfs2, HS2⟩, ⟨%ds3, %fs3, -, HS3⟩, Hq0, Hh0, Hh1, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
    ihave Hsp0_0_2 := (src0_0_split c fh2 (Ring.sl 3 (t.val + 2)) (Ring.bk 50 (t.val + 2))).1 $$ Hw0_0_2
    icases Hsp0_0_2 with ⟨Hh0_0_2, Hr0_0_2⟩
    obtain rfl := harg3.eq_unread hf0; obtain rfl := harg4.eq_unread hf1; obtain rfl := harg5.eq_unread hf2; obtain rfl := harg6.eq_unread hf3; obtain rfl := harg7.eq_unread hf4; obtain rfl := harg13.eq_unread hfs1; obtain rfl := harg12.eq_unread hfs0; obtain rfl := harg14.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro; sl_unfold_run_names; exact (View.read_writes_full _ _ _ _ _).trans (congrArg k0_pay1 (pay14_congr (readAt_slot t _ _ _) (readAt_unread_full harg12 y0 _) (readAt_unread_full harg4 x1 _) (readAt_unread_full harg5 x2 _)))
    isplitl [H6]
    · iexists _; isplitr; swap; · iexact H6
      ipureintro; sl_unfold_run_names; exact (View.read_writes_full _ _ _ _ _).trans (congrArg k0_pay2 (pay13_congr (readAt_slot t _ _ _) (readAt_unread_full harg12 y0 _) (readAt_unread_full harg4 x1 _) (readAt_unread_full harg5 x2 _)))
    isplitl [H7]
    · iexists _; isplitr; swap; · iexact H7
      ipureintro; exact hf7
    isplitl [HS0]
    · iexists _; isplitr; swap; · iexact HS0
      ipureintro; sl_unfold_run_names; exact harg12.read_unread _
    isplitl [HS1]
    · iexists _; isplitr; swap; · iexact HS1
      ipureintro; sl_unfold_run_names; exact (read_putRows t harg13 y1 _ _).trans (congrArg (fun h => putRows t.val (k0_pay3 h) y1) (pay13_congr (readAt_slot t _ _ _) (readAt_unread_full harg12 y0 _) (readAt_unread_full harg4 x1 _) (readAt_unread_full harg5 x2 _)))
    isplitl [HS2]
    · iexists _; isplitr; swap; · iexact HS2
      ipureintro; sl_unfold_run_names; exact (View.read_writes_full _ _ _ _ _).trans (pay4_congr (pay14_congr (readAt_slot t _ _ _) (readAt_unread_full harg12 y0 _) (readAt_unread_full harg4 x1 _) (readAt_unread_full harg5 x2 _)) (readAt_unread_full harg14 ps _))
    isplitl [HS3]
    · iexists _, _; isplitr; swap; · iexact HS3
      ipureintro; rfl
    isplitl [Hq0]; · iexact Hq0
    isplitl [Hh0]; · iexact Hh0
    isplitl [Hh1]; · iexact Hh1
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh2 (Ring.sl 3 t.val) (Ring.bk 50 t.val)).2; isplitl [Hf0_0_0_src]; · iexact Hf0_0_0_src
      iexact Hrf0_0_0
    iexists _; iexact HW

end Cert.KernelIdeal.Tracked

end
-- ==== Proof.KernelRunDrain.lean ====
/- The kernel's body at the last but one grid point, which starts no copy: its triple, every buffer's final contents named. -/
module

public import proofs.«01_k».proof.Proof.KernelRunMiddle

@[expose] public section

set_option maxRecDepth 16384

noncomputable section

namespace Cert.KernelIdeal.Tracked

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
/-- The body at the last but one grid point, which starts no copy. Its arrays are read as they lie: the five blocks `x0 … x4`, the two sequences `fh0`, `fh1`, and
    the adjacency matrix `fh2` by way of the ring, whose block for this point has landed (or is waited for here). -/
theorem runDrain (c : Dev nD) (t : Fin cfg0.N) (arg3 : Memref sig .tc .vmem S128x128 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S128x128 .f32) (harg6 : arg6.IsWhole) (arg7 : Memref sig .tc .vmem S1x1 .f32) (harg7 : arg7.IsWhole) (arg9 : Memref sig .tc .vmem S1x200x128 .f32) (harg9 : arg9.IsWhole) (arg10 : Memref sig .tc .vmem S1x200x128 .f32) (harg10 : arg10.IsWhole) (arg11 : Memref sig .tc .vmem S10000x2 .f32) (harg11 : arg11.IsWhole) (arg12 : Memref sig .tc .vmem S10000x256 .f32) (harg12 : arg12.IsWhole) (arg13 : Memref sig .tc .vmem S10000x256 .f32) (harg13 : arg13.IsWhole) (arg14 : Memref sig .tc .vmem S1x128 .f32) (harg14 : arg14.IsWhole) (arg15 : Memref sig .tc .vmem S10000x128 .f32) (harg15 : arg15.IsWhole)
    (hc0 : ¬cond0_0 (grid0.coords t)) (hc1 : ¬cond0_1 (grid0.coords t)) (hc2 : ¬cond0_2 (grid0.coords t))
    (x0 : Vec F S128x128 .f32) (x1 : Vec F S1x256 .f32) (x2 : Vec F S1x1 .f32) (x3 : Vec F S128x128 .f32) (x4 : Vec F S1x1 .f32) (y0 y1 : Vec F S10000x256 .f32) (ps : Vec F S1x128 .f32) (v7 : Vec F S10000x2 .f32) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg9 fullShare d) ∗ (∃ d, owns (c : Thread nD τ) arg10 fullShare d) ∗ owns (c : Thread nD τ) arg11 fullShare v7 ∗ owns (c : Thread nD τ) arg12 fullShare y0 ∗ owns (c : Thread nD τ) arg13 fullShare y1 ∗ owns (c : Thread nD τ) arg14 fullShare ps ∗ (∃ d, owns (c : Thread nD τ) arg15 fullShare d) ∗ semVal ((c : Thread nD τ), SemLoc.dma 10) 0 ∗ hbPt0 c hbM0_0 fh0 ∗ hbPt0 c hbM0_1 fh1 ∗ Ring.inflight (flightW0_0 c fh2) (Ring.sl 3 t.val) (Ring.bk 50 t.val) ∗ Ring.slotAt 2 (cellP0_0 c) (slotW0_0 c fh2) (flightW0_0 c fh2) t.val 1 ∗ Ring.free (cellP0_0 c) (slotW0_0 c fh2) (Ring.sl 3 (t.val + 2)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare (k0_pay1 (k0_pay14 (lead (adjRows c fh2 (Ring.bk 50 t.val))) y0 x1 x2)) ∗ owns (c : Thread nD τ) arg10 fullShare (k0_pay2 (k0_pay13 (lead (adjRows c fh2 (Ring.bk 50 t.val))) y0 x1 x2)) ∗ owns (c : Thread nD τ) arg11 fullShare v7 ∗ owns (c : Thread nD τ) arg12 fullShare y0 ∗ owns (c : Thread nD τ) arg13 fullShare (putRows t.val (k0_pay3 (k0_pay13 (lead (adjRows c fh2 (Ring.bk 50 t.val))) y0 x1 x2)) y1) ∗ owns (c : Thread nD τ) arg14 fullShare (k0_pay4 (k0_pay14 (lead (adjRows c fh2 (Ring.bk 50 t.val))) y0 x1 x2) ps) ∗ (∃ d, owns (c : Thread nD τ) arg15 fullShare d) ∗ semVal ((c : Thread nD τ), SemLoc.dma 10) 0 ∗ hbPt0 c hbM0_0 fh0 ∗ hbPt0 c hbM0_1 fh1 ∗ Ring.slotAt 2 (cellP0_0 c) (slotW0_0 c fh2) (flightW0_0 c fh2) t.val 1 ∗ Ring.free (cellP0_0 c) (slotW0_0 c fh2) (Ring.sl 3 (t.val + 2)) ∗ Ring.free (cellP0_0 c) (slotW0_0 c fh2) (Ring.sl 3 t.val) ∗ (∃ W', owes (c : Thread nD τ) 0 W')) -∗ K ⟨⟩))
          ⊢ wp frame (wpE (defs₀ (F := F)) Variants.none c none) Set.univ (cc0__dgi_body (grid0.coords t) (Memref.whole main_v0) (Memref.isWhole_whole _) (Memref.whole main_v1) (Memref.isWhole_whole _) arg3 harg3 arg4 harg4 arg5 harg5 arg6 harg6 arg7 harg7 (Memref.whole main_v2) (Memref.isWhole_whole _) arg9 harg9 arg10 harg10 arg11 harg11 arg12 harg12 arg13 harg13 arg14 harg14 arg15 harg15 scM0_4 (Memref.isWhole_whole _) cc0_scratch5 cc0_scratch6) K := by
    intro W K
    haveI : Fact (¬cond0_0 (grid0.coords t)) := ⟨hc0⟩
    haveI : Fact (¬cond0_1 (grid0.coords t)) := ⟨hc1⟩
    haveI : Fact (¬cond0_2 (grid0.coords t)) := ⟨hc2⟩
    simp only [cc0__dgi_body_eq_skeleton]; unfold cc0__dgi_body_skel
    simp only [k0_part2_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, ⟨%fs1, %hfs1, HS1⟩, ⟨%fs2, %hfs2, HS2⟩, ⟨%ds3, %fs3, -, HS3⟩, Hq0, Hh0, Hh1, ⟨%ff0_0_0, Hf0_0_0, Hrf0_0_0⟩, Hro0_0_1, ⟨Hc0_0_2, ⟨%fs0_0_2, Hs0_0_2, Hw0_0_2⟩⟩, HW, Hk⟩
    obtain rfl := harg3.eq_unread hf0; obtain rfl := harg4.eq_unread hf1; obtain rfl := harg5.eq_unread hf2; obtain rfl := harg6.eq_unread hf3; obtain rfl := harg7.eq_unread hf4; obtain rfl := harg13.eq_unread hfs1; obtain rfl := harg12.eq_unread hfs0; obtain rfl := harg14.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro; sl_unfold_run_names; exact (View.read_writes_full _ _ _ _ _).trans (congrArg k0_pay1 (pay14_congr (readAt_slot t _ _ _) (readAt_unread_full harg12 y0 _) (readAt_unread_full harg4 x1 _) (readAt_unread_full harg5 x2 _)))
    isplitl [H6]
    · iexists _; isplitr; swap; · iexact H6
      ipureintro; sl_unfold_run_names; exact (View.read_writes_full _ _ _ _ _).trans (congrArg k0_pay2 (pay13_congr (readAt_slot t _ _ _) (readAt_unread_full harg12 y0 _) (readAt_unread_full harg4 x1 _) (readAt_unread_full harg5 x2 _)))
    isplitl [H7]
    · iexists _; isplitr; swap; · iexact H7
      ipureintro; exact hf7
    isplitl [HS0]
    · iexists _; isplitr; swap; · iexact HS0
      ipureintro; sl_unfold_run_names; exact harg12.read_unread _
    isplitl [HS1]
    · iexists _; isplitr; swap; · iexact HS1
      ipureintro; sl_unfold_run_names; exact (read_putRows t harg13 y1 _ _).trans (congrArg (fun h => putRows t.val (k0_pay3 h) y1) (pay13_congr (readAt_slot t _ _ _) (readAt_unread_full harg12 y0 _) (readAt_unread_full harg4 x1 _) (readAt_unread_full harg5 x2 _)))
    isplitl [HS2]
    · iexists _; isplitr; swap; · iexact HS2
      ipureintro; sl_unfold_run_names; exact (View.read_writes_full _ _ _ _ _).trans (pay4_congr (pay14_congr (readAt_slot t _ _ _) (readAt_unread_full harg12 y0 _) (readAt_unread_full harg4 x1 _) (readAt_unread_full harg5 x2 _)) (readAt_unread_full harg14 ps _))
    isplitl [HS3]
    · iexists _, _; isplitr; swap; · iexact HS3
      ipureintro; rfl
    isplitl [Hq0]; · iexact Hq0
    isplitl [Hh0]; · iexact Hh0
    isplitl [Hh1]; · iexact Hh1
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh2 (Ring.sl 3 t.val) (Ring.bk 50 t.val)).2; isplitl [Hf0_0_0_src]; · iexact Hf0_0_0_src
      iexact Hrf0_0_0
    iexists _; iexact HW

end Cert.KernelIdeal.Tracked

end
-- ==== Proof.KernelRunLast.lean ====
/- The kernel's body at the last grid point, which computes the scores: its triple, every buffer's final contents named. -/
module

public import proofs.«01_k».proof.Proof.KernelRunDrain

@[expose] public section

set_option maxRecDepth 16384

noncomputable section

namespace Cert.KernelIdeal.Tracked

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 4000000 in
/-- The body at the last grid point, which computes the scores. Its arrays are read as they lie: the five blocks `x0 … x4`, the two sequences `fh0`, `fh1`, and
    the adjacency matrix `fh2` by way of the ring, whose block for this point has landed (or is waited for here). -/
theorem runLast (c : Dev nD) (t : Fin cfg0.N) (arg3 : Memref sig .tc .vmem S128x128 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S128x128 .f32) (harg6 : arg6.IsWhole) (arg7 : Memref sig .tc .vmem S1x1 .f32) (harg7 : arg7.IsWhole) (arg9 : Memref sig .tc .vmem S1x200x128 .f32) (harg9 : arg9.IsWhole) (arg10 : Memref sig .tc .vmem S1x200x128 .f32) (harg10 : arg10.IsWhole) (arg11 : Memref sig .tc .vmem S10000x2 .f32) (harg11 : arg11.IsWhole) (arg12 : Memref sig .tc .vmem S10000x256 .f32) (harg12 : arg12.IsWhole) (arg13 : Memref sig .tc .vmem S10000x256 .f32) (harg13 : arg13.IsWhole) (arg14 : Memref sig .tc .vmem S1x128 .f32) (harg14 : arg14.IsWhole) (arg15 : Memref sig .tc .vmem S10000x128 .f32) (harg15 : arg15.IsWhole)
    (hc0 : ¬cond0_0 (grid0.coords t)) (hc1 : ¬cond0_1 (grid0.coords t)) (hc2 : cond0_2 (grid0.coords t))
    (x0 : Vec F S128x128 .f32) (x1 : Vec F S1x256 .f32) (x2 : Vec F S1x1 .f32) (x3 : Vec F S128x128 .f32) (x4 : Vec F S1x1 .f32) (y0 y1 : Vec F S10000x256 .f32) (ps : Vec F S1x128 .f32) (v7 : Vec F S10000x2 .f32) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg9 fullShare d) ∗ (∃ d, owns (c : Thread nD τ) arg10 fullShare d) ∗ owns (c : Thread nD τ) arg11 fullShare v7 ∗ owns (c : Thread nD τ) arg12 fullShare y0 ∗ owns (c : Thread nD τ) arg13 fullShare y1 ∗ owns (c : Thread nD τ) arg14 fullShare ps ∗ (∃ d, owns (c : Thread nD τ) arg15 fullShare d) ∗ semVal ((c : Thread nD τ), SemLoc.dma 10) 0 ∗ hbPt0 c hbM0_0 fh0 ∗ hbPt0 c hbM0_1 fh1 ∗ Ring.inflight (flightW0_0 c fh2) (Ring.sl 3 t.val) (Ring.bk 50 t.val) ∗ Ring.slotAt 2 (cellP0_0 c) (slotW0_0 c fh2) (flightW0_0 c fh2) t.val 1 ∗ Ring.free (cellP0_0 c) (slotW0_0 c fh2) (Ring.sl 3 (t.val + 2)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare (k0_pay1 (k0_pay14 (lead (adjRows c fh2 (Ring.bk 50 t.val))) y0 x1 x2)) ∗ owns (c : Thread nD τ) arg10 fullShare (k0_pay2 (k0_pay13 (lead (adjRows c fh2 (Ring.bk 50 t.val))) y0 x1 x2)) ∗ owns (c : Thread nD τ) arg11 fullShare (scores (k0_pay4 (k0_pay14 (lead (adjRows c fh2 (Ring.bk 50 t.val))) y0 x1 x2) ps) x3 (putRows t.val (k0_pay3 (k0_pay13 (lead (adjRows c fh2 (Ring.bk 50 t.val))) y0 x1 x2)) y1) x4) ∗ owns (c : Thread nD τ) arg12 fullShare y0 ∗ owns (c : Thread nD τ) arg13 fullShare (putRows t.val (k0_pay3 (k0_pay13 (lead (adjRows c fh2 (Ring.bk 50 t.val))) y0 x1 x2)) y1) ∗ owns (c : Thread nD τ) arg14 fullShare (k0_pay4 (k0_pay14 (lead (adjRows c fh2 (Ring.bk 50 t.val))) y0 x1 x2) ps) ∗ (∃ d, owns (c : Thread nD τ) arg15 fullShare d) ∗ semVal ((c : Thread nD τ), SemLoc.dma 10) 0 ∗ hbPt0 c hbM0_0 fh0 ∗ hbPt0 c hbM0_1 fh1 ∗ Ring.slotAt 2 (cellP0_0 c) (slotW0_0 c fh2) (flightW0_0 c fh2) t.val 1 ∗ Ring.free (cellP0_0 c) (slotW0_0 c fh2) (Ring.sl 3 (t.val + 2)) ∗ Ring.free (cellP0_0 c) (slotW0_0 c fh2) (Ring.sl 3 t.val) ∗ (∃ W', owes (c : Thread nD τ) 0 W')) -∗ K ⟨⟩))
          ⊢ wp frame (wpE (defs₀ (F := F)) Variants.none c none) Set.univ (cc0__dgi_body (grid0.coords t) (Memref.whole main_v0) (Memref.isWhole_whole _) (Memref.whole main_v1) (Memref.isWhole_whole _) arg3 harg3 arg4 harg4 arg5 harg5 arg6 harg6 arg7 harg7 (Memref.whole main_v2) (Memref.isWhole_whole _) arg9 harg9 arg10 harg10 arg11 harg11 arg12 harg12 arg13 harg13 arg14 harg14 arg15 harg15 scM0_4 (Memref.isWhole_whole _) cc0_scratch5 cc0_scratch6) K := by
    intro W K
    haveI : Fact (¬cond0_0 (grid0.coords t)) := ⟨hc0⟩
    haveI : Fact (¬cond0_1 (grid0.coords t)) := ⟨hc1⟩
    haveI : Fact (cond0_2 (grid0.coords t)) := ⟨hc2⟩
    simp only [cc0__dgi_body_eq_skeleton]; unfold cc0__dgi_body_skel
    simp only [k0_part2_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, ⟨%fs1, %hfs1, HS1⟩, ⟨%fs2, %hfs2, HS2⟩, ⟨%ds3, %fs3, -, HS3⟩, Hq0, Hh0, Hh1, ⟨%ff0_0_0, Hf0_0_0, Hrf0_0_0⟩, Hro0_0_1, ⟨Hc0_0_2, ⟨%fs0_0_2, Hs0_0_2, Hw0_0_2⟩⟩, HW, Hk⟩
    obtain rfl := harg3.eq_unread hf0; obtain rfl := harg4.eq_unread hf1; obtain rfl := harg5.eq_unread hf2; obtain rfl := harg6.eq_unread hf3; obtain rfl := harg7.eq_unread hf4; obtain rfl := harg13.eq_unread hfs1; obtain rfl := harg12.eq_unread hfs0; obtain rfl := harg14.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro; sl_unfold_run_names; exact (View.read_writes_full _ _ _ _ _).trans (congrArg k0_pay1 (pay14_congr (readAt_slot t _ _ _) (readAt_unread_full harg12 y0 _) (readAt_unread_full harg4 x1 _) (readAt_unread_full harg5 x2 _)))
    isplitl [H6]
    · iexists _; isplitr; swap; · iexact H6
      ipureintro; sl_unfold_run_names; exact (View.read_writes_full _ _ _ _ _).trans (congrArg k0_pay2 (pay13_congr (readAt_slot t _ _ _) (readAt_unread_full harg12 y0 _) (readAt_unread_full harg4 x1 _) (readAt_unread_full harg5 x2 _)))
    isplitl [H7]
    · iexists _; isplitr; swap; · iexact H7
      ipureintro; sl_unfold_run_names; refine (read_two_cols _ _ _ _ _ _).trans (scores_congr ((readCov_store _ _ _ _ _).trans (pay4_congr (pay14_congr (readAt_slot t _ _ _) (readAt_unread_full harg12 y0 _) (readAt_unread_full harg4 x1 _) (readAt_unread_full harg5 x2 _)) (readAt_unread_full harg14 ps _))) (readAt_unread_full harg6 x3 _) ((readAt_colsL _ _ _).trans (congrArg colsL ((read_putRows t harg13 y1 _ _).trans (congrArg (fun h => putRows t.val (k0_pay3 h) y1) (pay13_congr (readAt_slot t _ _ _) (readAt_unread_full harg12 y0 _) (readAt_unread_full harg4 x1 _) (readAt_unread_full harg5 x2 _)))))) (readAt_unread_full harg7 x4 _) ((readCov_store _ _ _ _ _).trans (pay4_congr (pay14_congr (readAt_slot t _ _ _) (readAt_unread_full harg12 y0 _) (readAt_unread_full harg4 x1 _) (readAt_unread_full harg5 x2 _)) (readAt_unread_full harg14 ps _))) (readAt_unread_full harg6 x3 _) ((readAt_colsR _ _ _).trans (congrArg colsR ((read_putRows t harg13 y1 _ _).trans (congrArg (fun h => putRows t.val (k0_pay3 h) y1) (pay13_congr (readAt_slot t _ _ _) (readAt_unread_full harg12 y0 _) (readAt_unread_full harg4 x1 _) (readAt_unread_full harg5 x2 _)))))) (readAt_unread_full harg7 x4 _))
    isplitl [HS0]
    · iexists _; isplitr; swap; · iexact HS0
      ipureintro; sl_unfold_run_names; exact harg12.read_unread _
    isplitl [HS1]
    · iexists _; isplitr; swap; · iexact HS1
      ipureintro; sl_unfold_run_names; exact (read_putRows t harg13 y1 _ _).trans (congrArg (fun h => putRows t.val (k0_pay3 h) y1) (pay13_congr (readAt_slot t _ _ _) (readAt_unread_full harg12 y0 _) (readAt_unread_full harg4 x1 _) (readAt_unread_full harg5 x2 _)))
    isplitl [HS2]
    · iexists _; isplitr; swap; · iexact HS2
      ipureintro; sl_unfold_run_names; exact (View.read_writes_full _ _ _ _ _).trans (pay4_congr (pay14_congr (readAt_slot t _ _ _) (readAt_unread_full harg12 y0 _) (readAt_unread_full harg4 x1 _) (readAt_unread_full harg5 x2 _)) (readAt_unread_full harg14 ps _))
    isplitl [HS3]
    · iexists _, _; isplitr; swap; · iexact HS3
      ipureintro; rfl
    isplitl [Hq0]; · iexact Hq0
    isplitl [Hh0]; · iexact Hh0
    isplitl [Hh1]; · iexact Hh1
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh2 (Ring.sl 3 t.val) (Ring.bk 50 t.val)).2; isplitl [Hf0_0_0_src]; · iexact Hf0_0_0_src
      iexact Hrf0_0_0
    iexists _; iexact HW

end Cert.KernelIdeal.Tracked

end
-- ==== Proof.KernelFrame.lean ====
/- The kernel's launch with every value tracked: what each grid point leaves, as a function of the arrays the launch
   finds, the invariant that carries it from point to point, and the run of the whole program. -/
module

public import proofs.«01_k».proof.Proof.KernelRunLast

@[expose] public section

set_option maxRecDepth 16384

noncomputable section

namespace Cert.KernelIdeal.Tracked

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the run computes, from the arrays the launch finds -/

/-- Grid point `k` (taken modulo the grid's 50 points). -/
def pt (k : ℕ) : Fin cfg0.N := ⟨k % 50, lt_of_lt_of_eq (Nat.mod_lt _ (by decide)) (show 50 = cfg0.N from N_0.symm)⟩

/-- A grid point is the point of its own number. -/
theorem pt_val (t : Fin cfg0.N) : pt t.val = t :=
  Fin.ext (Nat.mod_eq_of_lt (lt_of_lt_of_eq t.isLt (show cfg0.N = 50 from N_0)))

/-- The feature matrix the first point leaves. -/
def featsAll (c : Dev nD) : Vec F S10000x256 .f32 :=
  feats (iblk m c 0 (pt 0)) ((Memref.whole main_v0).view.read (Elt F) (V m c main_v0))
    ((Memref.whole main_v1).view.read (Elt F) (V m c main_v1))

/-- Point `t`'s 200 rows of activations, 256 columns; -/
def rows (c : Dev nD) (t : Fin cfg0.N) : Vec F S200x256 .f32 :=
  k0_pay13 (lead (adjRows c (V m c main_v2) (Ring.bk 50 t.val))) (featsAll m c) (iblk m c 1 t) (iblk m c 2 t)
/-- their left 128 columns, which are summed. -/
def rowsL (c : Dev nD) (t : Fin cfg0.N) : Vec F S200x128 .f32 :=
  k0_pay14 (lead (adjRows c (V m c main_v2) (Ring.bk 50 t.val))) (featsAll m c) (iblk m c 1 t) (iblk m c 2 t)

/-- The running sum of the left rows before point `k`. -/
def psum (c : Dev nD) : ℕ → Vec F S1x128 .f32
  | 0 => k0_pay12 (k0_pay11 (F := F))
  | k + 1 => k0_pay4 (rowsL m c (pt k)) (psum c k)

/-- All the activations, row `i` from point `i / 200`. -/
def acts (c : Dev nD) : Vec F S10000x256 .f32 := fun y =>
  k0_pay3 (rows m c (pt ((y 0).val / 200))) (ix2 ⟨(y 0).val % 200, Nat.mod_lt _ (by decide)⟩ (y 1))

/-- What the carried buffers hold before point `k`: from the first point on the feature matrix and the running sum,
    and the activations of every row already computed. -/
def Good (c : Dev nD) (k : ℕ) (y0 y1 : Vec F S10000x256 .f32) (ps : Vec F S1x128 .f32) : Prop :=
  (k ≠ 0 → y0 = featsAll m c ∧ ps = psum m c k) ∧ ∀ y : S10000x256.Idx, (y 0).val < 200 * k → y1 y = acts m c y

/-- A point puts its rows into place. -/
theorem Good.step {c : Dev nD} {t : Fin cfg0.N} {y0 y1 : Vec F S10000x256 .f32} {ps : Vec F S1x128 .f32}
    (h : Good m c t.val y0 y1 ps) :
    Good m c (t.val + 1) (featsAll m c) (putRows t.val (k0_pay3 (rows m c t)) y1) (psum m c (t.val + 1)) := by
  refine ⟨fun _ => ⟨rfl, rfl⟩, fun y hy => ?_⟩
  unfold putRows
  by_cases hi : 200 * t.val ≤ (y 0).val ∧ (y 0).val < 200 * t.val + 200
  · rw [dif_pos hi]
    have hd : (y 0).val / 200 = t.val := by omega
    have hm : (y 0).val % 200 = (y 0).val - 200 * t.val := by omega
    unfold acts
    rw [hd, pt_val]
    exact congrArg _ (congrArg (fun a => ix2 a (y 1)) (Fin.ext hm.symm))
  · rw [dif_neg hi]
    exact h.2 y (by omega)

/-- After the last point the stored activations are all of them. -/
theorem Good.full {c : Dev nD} {y0 y1 : Vec F S10000x256 .f32} {ps : Vec F S1x128 .f32} (h : Good m c 50 y0 y1 ps) :
    y1 = acts m c :=
  funext fun y => h.2 y (idx2_lt0 y)

/-! ## The pipeline's proof data -/

/-- The invariant before point `k`: the carried buffers as `Good` says, the landing buffer at anything, the generator
    register, the landing copies' cell at zero, the two sequences whole, the ring before point `k`. -/
def PhiV (c : Dev nD) (k : ℕ) : sProp 𝕄 :=
  iprop((∃ y0 y1 ps, ⌜Good m c k y0 y1 ps⌝ ∗ owns (c : Thread nD τ) scM0_0 fullShare y0 ∗ owns (c : Thread nD τ) scM0_1 fullShare y1
      ∗ owns (c : Thread nD τ) scM0_2 fullShare ps)
    ∗ (∃ d, owns (c : Thread nD τ) scM0_3 fullShare d) ∗ (∃ r, prngReg c r) ∗ semVal ((c : Thread nD τ), SemLoc.dma 10) 0
    ∗ hbPt0 c hbM0_0 (V m c main_v0) ∗ hbPt0 c hbM0_1 (V m c main_v1) ∗ ringAt0_0 c (V m c main_v2) k)

/-- The scores the last point leaves. -/
def scoresAll (c : Dev nD) (t : Fin cfg0.N) : Vec F S10000x2 .f32 :=
  scores (psum m c 50) (iblk m c 3 t) (acts m c) (iblk m c 4 t)

/-- The proof data of the one pipeline on core `c`: each input's buffer at its block, each output's at what the point
    computes. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay1 (rowsL m c t)
    | ⟨6, _⟩ => k0_pay2 (rows m c t)
    | ⟨7, _⟩ => scoresAll m c t
  Φ t := PhiV m c t.val
  q _ := fullShare
  owed _ := 0

/-- Before the run each window's array holds what the host left in it. -/
theorem A_eq (c : Dev nD) (w : Fin cfg0.W) : (dats m 0 c).A w = V m c (Pipeline.arrRef spec0 w) := by
  dsimp only [dats]
/-- What holds before a point is what holds after as many points as its number. -/
theorem Phi_castSucc (c : Dev nD) (t : Fin cfg0.N) : (dats m 0 c).Φ t.castSucc = PhiV m c t.val := by
  dsimp only [dats]; simp only [Fin.coe_castSucc]
/-- What holds after a point is what holds after one point more. -/
theorem Phi_succ (c : Dev nD) (t : Fin cfg0.N) : (dats m 0 c).Φ t.succ = PhiV m c (t.val + 1) := by
  dsimp only [dats]; simp only [Fin.val_succ]

/-- Input window 0 holds the same block after a point as before it. -/
theorem after0_0 (c : Dev nD) (t : Fin cfg0.N) : (dats m 0 c).after 0 t = iblk m c 0 t := by dsimp only [dats]
/-- Input window 1 holds the same block after a point as before it. -/
theorem after0_1 (c : Dev nD) (t : Fin cfg0.N) : (dats m 0 c).after 1 t = iblk m c 1 t := by dsimp only [dats]
/-- Input window 2 holds the same block after a point as before it. -/
theorem after0_2 (c : Dev nD) (t : Fin cfg0.N) : (dats m 0 c).after 2 t = iblk m c 2 t := by dsimp only [dats]
/-- Input window 3 holds the same block after a point as before it. -/
theorem after0_3 (c : Dev nD) (t : Fin cfg0.N) : (dats m 0 c).after 3 t = iblk m c 3 t := by dsimp only [dats]
/-- Input window 4 holds the same block after a point as before it. -/
theorem after0_4 (c : Dev nD) (t : Fin cfg0.N) : (dats m 0 c).after 4 t = iblk m c 4 t := by dsimp only [dats]
/-- After a point the first output window holds the left half of the point's rows. -/
theorem after0_5 (c : Dev nD) (t : Fin cfg0.N) : (dats m 0 c).after 5 t = k0_pay1 (rowsL m c t) := by dsimp only [dats]
/-- After a point the second output window holds the right half of the point's rows. -/
theorem after0_6 (c : Dev nD) (t : Fin cfg0.N) : (dats m 0 c).after 6 t = k0_pay2 (rows m c t) := by dsimp only [dats]
/-- After a point the score window holds the scores as of that point. -/
theorem after0_7 (c : Dev nD) (t : Fin cfg0.N) : (dats m 0 c).after 7 t = scoresAll m c t := by dsimp only [dats]

/-- Before a point input window 0 holds its block of the array. -/
theorem before0_0 (c : Dev nD) (t : Fin cfg0.N) (d) : (dats m 0 c).before 0 t d = iblk m c 0 t :=
  before0_0_of m (dats m 0 c) (A_eq m c 0) (after0_0 m c) t d
/-- Before a point input window 1 holds its block of the array. -/
theorem before0_1 (c : Dev nD) (t : Fin cfg0.N) (d) : (dats m 0 c).before 1 t d = iblk m c 1 t :=
  before0_1_of m (dats m 0 c) (A_eq m c 1) (after0_1 m c) t d
/-- Before a point input window 2 holds its block of the array. -/
theorem before0_2 (c : Dev nD) (t : Fin cfg0.N) (d) : (dats m 0 c).before 2 t d = iblk m c 2 t :=
  before0_2_of m (dats m 0 c) (A_eq m c 2) (after0_2 m c) t d
/-- Before a point input window 3 holds its block of the array. -/
theorem before0_3 (c : Dev nD) (t : Fin cfg0.N) (d) : (dats m 0 c).before 3 t d = iblk m c 3 t :=
  before0_3_of m (dats m 0 c) (A_eq m c 3) (after0_3 m c) t d
/-- Before a point input window 4 holds its block of the array. -/
theorem before0_4 (c : Dev nD) (t : Fin cfg0.N) (d) : (dats m 0 c).before 4 t d = iblk m c 4 t :=
  before0_4_of m (dats m 0 c) (A_eq m c 4) (after0_4 m c) t d

/-! ## The body obligation -/

/-- The score window is untouched at every point but the last. -/
theorem idle0_7 : ∀ t : Fin cfg0.N, cfg0.idle 7 (grid0.coords t) = decide (t.val % 50 ≠ 49) := by decide +kernel

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t)

/-- One point's triple, its ring pieces `R` before and `S` after, the score window taken from `v7` to `v y1 v7`. -/
def PointRun (c : Dev nD) (t : Fin cfg0.N) (R₁ R₂ R₃ S₁ S₂ S₃ : sProp 𝕄)
    (v : Vec F S10000x256 .f32 → Vec F S10000x2 .f32 → Vec F S10000x2 .f32) : Prop :=
  ∀ (y0 y1 : Vec F S10000x256 .f32) (ps : Vec F S1x128 .f32) (v7 : Vec F S10000x2 .f32), Good m c t.val y0 y1 ps →
  ∀ (W : Waits sig Unit) (K : PUnit → sProp 𝕄),
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
      ∗ (∃ d, owns (c : Thread nD τ) (ms0_5 t) fullShare d) ∗ (∃ d, owns (c : Thread nD τ) (ms0_6 t) fullShare d) ∗ owns (c : Thread nD τ) (ms0_7 t) fullShare v7
      ∗ owns (c : Thread nD τ) scM0_0 fullShare y0 ∗ owns (c : Thread nD τ) scM0_1 fullShare y1 ∗ owns (c : Thread nD τ) scM0_2 fullShare ps ∗ (∃ d, owns (c : Thread nD τ) scM0_3 fullShare d)
      ∗ semVal ((c : Thread nD τ), SemLoc.dma 10) 0 ∗ hbPt0 c hbM0_0 (V m c main_v0) ∗ hbPt0 c hbM0_1 (V m c main_v1) ∗ R₁ ∗ R₂ ∗ R₃ ∗ owes (c : Thread nD τ) 0 W
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
        ∗ owns (c : Thread nD τ) (ms0_5 t) fullShare (k0_pay1 (rowsL m c t)) ∗ owns (c : Thread nD τ) (ms0_6 t) fullShare (k0_pay2 (rows m c t)) ∗ owns (c : Thread nD τ) (ms0_7 t) fullShare (v y1 v7)
        ∗ owns (c : Thread nD τ) scM0_0 fullShare (featsAll m c) ∗ owns (c : Thread nD τ) scM0_1 fullShare (putRows t.val (k0_pay3 (rows m c t)) y1) ∗ owns (c : Thread nD τ) scM0_2 fullShare (k0_pay4 (rowsL m c t) (psum m c t.val)) ∗ (∃ d, owns (c : Thread nD τ) scM0_3 fullShare d)
        ∗ semVal ((c : Thread nD τ), SemLoc.dma 10) 0 ∗ hbPt0 c hbM0_0 (V m c main_v0) ∗ hbPt0 c hbM0_1 (V m c main_v1) ∗ S₁ ∗ S₂ ∗ S₃ ∗ (∃ W', owes (c : Thread nD τ) 0 W')) -∗ K ⟨⟩))
      ⊢ wp frame (wpE (defs₀ (F := F)) Variants.none c none) Set.univ (bodyAt0 t) K

set_option maxHeartbeats 1600000 in
/-- A point's triple is its body obligation, once its ring pieces are the ring before and after it and its score
    window is what the pipeline expects there. -/
theorem sound_of {c : Dev nD} {t : Fin cfg0.N} {R₁ R₂ R₃ S₁ S₂ S₃ : sProp 𝕄}
    {v : Vec F S10000x256 .f32 → Vec F S10000x2 .f32 → Vec F S10000x2 .f32}
    (hrun : PointRun m c t R₁ R₂ R₃ S₁ S₂ S₃ v)
    (hR : ringAt0_0 c (V m c main_v2) t.val ⊢ iprop(R₁ ∗ R₂ ∗ R₃))
    (hS : iprop(S₁ ∗ S₂ ∗ S₃) ⊢ ringAt0_0 c (V m c main_v2) (t.val + 1))
    (h7 : ∀ y0 y1 ps d, Good m c t.val y0 y1 ps →
      (owns (c : Thread nD τ) (ms0_7 t) fullShare (v y1 ((dats m 0 c).before 7 t d)) : sProp 𝕄) ⊢ (dats m 0 c).leavesExact 7 t) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [Phi_castSucc m c t, Phi_succ m c t]
  unfold Dat.owesAt Pipeline.owesWithin
  rw [show (dats m 0 c).owed t.castSucc = 0 from rfl, show (dats m 0 c).owed t.succ = 0 from rfl]
  rw [show (dats m 0 c).leavesExact 0 t = owns (c : Thread nD τ) (ms0_0 t) fullShare (iblk m c 0 t) from rfl,
    show (dats m 0 c).leavesExact 1 t = owns (c : Thread nD τ) (ms0_1 t) fullShare (iblk m c 1 t) from rfl,
    show (dats m 0 c).leavesExact 2 t = owns (c : Thread nD τ) (ms0_2 t) fullShare (iblk m c 2 t) from rfl,
    show (dats m 0 c).leavesExact 3 t = owns (c : Thread nD τ) (ms0_3 t) fullShare (iblk m c 3 t) from rfl,
    show (dats m 0 c).leavesExact 4 t = owns (c : Thread nD τ) (ms0_4 t) fullShare (iblk m c 4 t) from rfl,
    show (dats m 0 c).leavesExact 5 t = owns (c : Thread nD τ) (ms0_5 t) fullShare (k0_pay1 (rowsL m c t)) from rfl,
    show (dats m 0 c).leavesExact 6 t = owns (c : Thread nD τ) (ms0_6 t) fullShare (k0_pay2 (rows m c t)) from rfl]
  unfold PhiV
  iintro ⟨⟨⟨%y0, %y1, %ps, %hg, HS0, HS1, HS2⟩, HS3, Hg, Hq0, Hh0, Hh1, HR⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  ihave HR' := hR $$ HR
  icases HR' with ⟨HR1, HR2, HR3⟩
  iapply (hrun y0 y1 ps _ hg W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [HS0]; · iexact HS0
  isplitl [HS1]; · iexact HS1
  isplitl [HS2]; · iexact HS2
  isplitl [HS3]; · iexact HS3
  isplitl [Hq0]; · iexact Hq0
  isplitl [Hh0]; · iexact Hh0
  isplitl [Hh1]; · iexact Hh1
  isplitl [HR1]; · iexact HR1
  isplitl [HR2]; · iexact HR2
  isplitl [HR3]; · iexact HR3
  isplitl [HW]; · iexact HW
  iintro ⟨H0, H1, H2, H3, H4, H5, H6, H7, HS0, HS1, HS2, HS3, Hq0, Hh0, Hh1, HR1, HR2, HR3, ⟨%W', HW'⟩⟩
  isplitl [HS0 HS1 HS2 HS3 Hg Hq0 Hh0 Hh1 HR1 HR2 HR3]
  · isplitl [HS0 HS1 HS2]
    · iexists (featsAll m c), (putRows t.val (k0_pay3 (rows m c t)) y1), (psum m c (t.val + 1))
      isplitr; · ipureintro; exact hg.step
      isplitl [HS0]; · iexact HS0
      isplitl [HS1]; · iexact HS1
      rw [show psum m c (t.val + 1) = k0_pay4 (rowsL m c t) (psum m c t.val) from
        congrArg (fun s => k0_pay4 (rowsL m c s) (psum m c t.val)) (pt_val t)]
      iexact HS2
    isplitl [HS3]; · iexact HS3
    isplitl [Hg]; · iexact Hg
    isplitl [Hq0]; · iexact Hq0
    isplitl [Hh0]; · iexact Hh0
    isplitl [Hh1]; · iexact Hh1
    iapply hS
    isplitl [HR1]; · iexact HR1
    isplitl [HR2]; · iexact HR2
    iexact HR3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (h7 y0 y1 ps d7 hg)
  iexact H7

/-- At a point before the last the score window keeps what it held. -/
theorem leaves7_idle (c : Dev nD) (t : Fin cfg0.N) (h : t.val % 50 ≠ 49) (d) :
    (owns (c : Thread nD τ) (ms0_7 t) fullShare ((dats m 0 c).before 7 t d) : sProp 𝕄) ⊢ (dats m 0 c).leavesExact 7 t := by
  rw [Dat.leavesExact_idle _ 7 t ((idle0_7 t).trans (decide_eq_true h))
    (Bool.eq_false_iff.mpr fun hf => h ((flush0_7 t).mp hf))]
  iintro H; iexists d; iexact H

/-- The ring's three pieces are the ring with no block held apart. -/
theorem ring_out {A B H : sProp 𝕄} (h : A = iprop(H ∗ B)) : A ⊢ B := by
  rw [h]; iintro ⟨-, H⟩; iexact H

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 50 := lt_of_lt_of_eq t.isLt (show cfg0.N = 50 from N_0)
  by_cases h0 : t.val % 50 = 0
  · have hc0 := (hcond0_0 t).mpr h0
    have hc1 := (hcond0_1 t).mpr (show t.val < 48 by omega)
    have hc2 : ¬cond0_2 (grid0.coords t) := fun h => by have := (hcond0_2 t).mp h; omega
    obtain ⟨hK, -⟩ := rstep0_0_A t hc0 hc1 hc2
    obtain rfl : t = pt 0 := Fin.ext hK
    have hR : ringAt0_0 c (V m c main_v2) (pt 0).val ⊢ (iprop(Ring.free (cellP0_0 c) (slotW0_0 c (V m c main_v2)) (Ring.sl 3 (pt 0).val) ∗ Ring.free (cellP0_0 c) (slotW0_0 c (V m c main_v2)) (Ring.sl 3 ((pt 0).val + 1)) ∗ Ring.free (cellP0_0 c) (slotW0_0 c (V m c main_v2)) (Ring.sl 3 ((pt 0).val + 2))) : sProp 𝕄) := by
      unfold ringAt0_0; rw [if_pos hK]
      exact ring_out (Ring.At₀_eq3' _ _ _ _ hK (by decide : 3 ≤ 50))
    have hS : (iprop(Ring.inflight (flightW0_0 c (V m c main_v2)) (Ring.sl 3 ((pt 0).val + 1)) (Ring.bk 50 ((pt 0).val + 1)) ∗ Ring.inflight (flightW0_0 c (V m c main_v2)) (Ring.sl 3 ((pt 0).val + 2)) (Ring.bk 50 ((pt 0).val + 2)) ∗ Ring.free (cellP0_0 c) (slotW0_0 c (V m c main_v2)) (Ring.sl 3 (pt 0).val)) : sProp 𝕄) ⊢ ringAt0_0 c (V m c main_v2) ((pt 0).val + 1) := by
      unfold ringAt0_0; rw [if_neg (by omega), Ring.At3_one' _ _ _ _ _ hK (by decide : 3 ≤ 50)]
      exact Ring.with_homes (Idealize.SL.BI.Entails.refl _)
    refine sound_of m (v := fun _ v7 => v7) (fun y0 y1 ps v7 hg W K => ?_) hR hS (fun _ _ _ d _ => leaves7_idle m c _ (by omega) d)
    exact runFirst c (pt 0) _ _ _ _ _ _ _ _ _ _ _ _ _ _ _ _ _ _ _ _ _ _ _ _ hc0 hc1 hc2 (iblk m c 0 (pt 0)) (iblk m c 1 (pt 0)) (iblk m c 2 (pt 0)) (iblk m c 3 (pt 0)) (iblk m c 4 (pt 0)) y0 y1 ps v7 (V m c main_v0) (V m c main_v1) (V m c main_v2) W K
  · have hc0 : ¬cond0_0 (grid0.coords t) := fun h => h0 ((hcond0_0 t).mp h)
    by_cases h1 : t.val < 48
    · have hc1 := (hcond0_1 t).mpr h1
      have hc2 : ¬cond0_2 (grid0.coords t) := fun h => by have := (hcond0_2 t).mp h; omega
      obtain ⟨hK, hB, -⟩ := rstep0_0_B t hc0 hc1 hc2
      have hR : ringAt0_0 c (V m c main_v2) t.val ⊢ (iprop(Ring.inflight (flightW0_0 c (V m c main_v2)) (Ring.sl 3 t.val) (Ring.bk 50 t.val) ∗ Ring.inflight (flightW0_0 c (V m c main_v2)) (Ring.sl 3 (t.val + 1)) (Ring.bk 50 (t.val + 1)) ∗ Ring.free (cellP0_0 c) (slotW0_0 c (V m c main_v2)) (Ring.sl 3 (t.val + 2))) : sProp 𝕄) := by
        unfold ringAt0_0; rw [if_neg (by omega)]
        exact ring_out (Ring.At3_here _ _ _ _ t.val hB)
      have hS : (iprop(Ring.inflight (flightW0_0 c (V m c main_v2)) (Ring.sl 3 (t.val + 1)) (Ring.bk 50 (t.val + 1)) ∗ Ring.inflight (flightW0_0 c (V m c main_v2)) (Ring.sl 3 (t.val + 2)) (Ring.bk 50 (t.val + 2)) ∗ Ring.free (cellP0_0 c) (slotW0_0 c (V m c main_v2)) (Ring.sl 3 t.val)) : sProp 𝕄) ⊢ ringAt0_0 c (V m c main_v2) (t.val + 1) := by
        unfold ringAt0_0
        rw [if_neg (by omega), Ring.At3_next _ _ _ _ t.val hB, Ring.slotAt3_next0 _ _ _ t.val (by omega), Ring.slotAt3_next1 _ _ _ t.val hB]
        exact Ring.with_homes (Idealize.SL.BI.Entails.refl _)
      refine sound_of m (v := fun _ v7 => v7) (fun y0 y1 ps v7 hg W K => ?_) hR hS (fun _ _ _ d _ => leaves7_idle m c _ (by omega) d)
      obtain ⟨rfl, rfl⟩ := hg.1 (by omega)
      exact runMiddle c t _ _ _ _ _ _ _ _ _ _ _ _ _ _ _ _ _ _ _ _ _ _ _ _ hc0 hc1 hc2 (iblk m c 0 t) (iblk m c 1 t) (iblk m c 2 t) (iblk m c 3 t) (iblk m c 4 t) _ y1 _ v7 (V m c main_v0) (V m c main_v1) (V m c main_v2) W K
    · have hc1 : ¬cond0_1 (grid0.coords t) := fun h => h1 ((hcond0_1 t).mp h)
      have hR : ringAt0_0 c (V m c main_v2) t.val ⊢ (iprop(Ring.inflight (flightW0_0 c (V m c main_v2)) (Ring.sl 3 t.val) (Ring.bk 50 t.val) ∗ Ring.slotAt 2 (cellP0_0 c) (slotW0_0 c (V m c main_v2)) (flightW0_0 c (V m c main_v2)) t.val 1 ∗ Ring.free (cellP0_0 c) (slotW0_0 c (V m c main_v2)) (Ring.sl 3 (t.val + 2))) : sProp 𝕄) := by
        unfold ringAt0_0; rw [if_neg (by omega)]
        exact ring_out (Ring.At3_here_tail _ _ _ _ t.val hN)
      have hS : (iprop(Ring.slotAt 2 (cellP0_0 c) (slotW0_0 c (V m c main_v2)) (flightW0_0 c (V m c main_v2)) t.val 1 ∗ Ring.free (cellP0_0 c) (slotW0_0 c (V m c main_v2)) (Ring.sl 3 (t.val + 2)) ∗ Ring.free (cellP0_0 c) (slotW0_0 c (V m c main_v2)) (Ring.sl 3 t.val)) : sProp 𝕄) ⊢ ringAt0_0 c (V m c main_v2) (t.val + 1) := by
        unfold ringAt0_0
        rw [if_neg (by omega), Ring.At3_next_tail _ _ _ _ t.val (by omega) hN, Ring.slotAt3_tail_role _ _ _ t.val]
        exact Ring.with_homes (Idealize.SL.BI.Entails.refl _)
      by_cases h2 : t.val % 50 = 49
      · have hc2 := (hcond0_2 t).mpr h2
        refine sound_of m (v := fun y1 _ => scores (k0_pay4 (rowsL m c t) (psum m c t.val)) (iblk m c 3 t) (putRows t.val (k0_pay3 (rows m c t)) y1) (iblk m c 4 t)) (fun y0 y1 ps v7 hg W K => ?_) hR hS (fun y0 y1 ps d hg => ?_)
        · obtain ⟨rfl, rfl⟩ := hg.1 (by omega)
          exact runLast c t _ _ _ _ _ _ _ _ _ _ _ _ _ _ _ _ _ _ _ _ _ _ _ _ hc0 hc1 hc2 (iblk m c 0 t) (iblk m c 1 t) (iblk m c 2 t) (iblk m c 3 t) (iblk m c 4 t) _ y1 _ v7 (V m c main_v0) (V m c main_v1) (V m c main_v2) W K
        · have ht : t.val = 49 := by omega
          have hs := hg.step
          have e1 : putRows t.val (k0_pay3 (rows m c t)) y1 = acts m c := by
            rw [ht] at hs; rw [ht]; exact hs.full
          have e2 : k0_pay4 (rowsL m c t) (psum m c t.val) = psum m c 50 := by
            rw [show psum m c 50 = psum m c (t.val + 1) by rw [ht]]
            exact congrArg (fun s => k0_pay4 (rowsL m c s) (psum m c t.val)) (pt_val t).symm
          unfold Dat.leavesExact
          rw [(idle0_7 t).trans (decide_eq_false (not_not.mpr h2)), after0_7, e1, e2]
          exact Idealize.SL.BI.Entails.refl _
      · have hc2 : ¬cond0_2 (grid0.coords t) := fun h => h2 ((hcond0_2 t).mp h)
        refine sound_of m (v := fun _ v7 => v7) (fun y0 y1 ps v7 hg W K => ?_) hR hS (fun _ _ _ d _ => leaves7_idle m c _ h2 d)
        obtain ⟨rfl, rfl⟩ := hg.1 (by omega)
        exact runDrain c t _ _ _ _ _ _ _ _ _ _ _ _ _ _ _ _ _ _ _ _ _ _ _ _ hc0 hc1 hc2 (iblk m c 0 t) (iblk m c 1 t) (iblk m c 2 t) (iblk m c 3 t) (iblk m c 4 t) _ y1 _ v7 (V m c main_v0) (V m c main_v1) (V m c main_v2) W K

/-- The body table at a point is the body on that point's staging buffers. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦD osem0 spec0 H0 (V m) c ⊢ (dats m 0 c).Φ 0 := by
  rw [PhiD0_eq, show (dats m 0 c).Φ 0 = PhiV m c 0 from rfl]
  unfold PhiV
  iintro ⟨⟨⟨%y0, HS0⟩, ⟨%y1, HS1⟩, ⟨%ps, HS2⟩, HS3, HR0_0⟩, Hg, ⟨Hq0, Hq1, Hq2, Hq3⟩, ⟨Hh0, Hh1, Hh2⟩⟩
  isplitl [HS0 HS1 HS2]
  · iexists y0, y1, ps
    isplitr; · ipureintro; exact ⟨fun h => absurd rfl h, fun y hy => absurd hy (by omega)⟩
    isplitl [HS0]; · iexact HS0
    isplitl [HS1]; · iexact HS1
    iexact HS2
  isplitl [HS3]; · iexact HS3
  isplitl [Hg]; · iexact Hg
  isplitl [Hq0]; · iexact Hq0
  isplitl [Hh0]; · iexact Hh0
  isplitl [Hh1]; · iexact Hh1
  iapply (ring0_0_in (F := F) m c)
  isplitl [HR0_0]; · iexact HR0_0
  isplitl [Hq1 Hq2 Hq3]
  · isplitl [Hq1]; · iexact Hq1
    isplitl [Hq2]; · iexact Hq2
    iexact Hq3
  iexact Hh2
/-- and the invariant after the last point hands it back. -/
theorem hout (c : Dev nD) : (dats m 0 c).Φ (Fin.last cfg0.N) ⊢ Pipeline.ΦD osem0 spec0 H0 (V m) c := by
  rw [PhiD0_eq, show (dats m 0 c).Φ (Fin.last cfg0.N) = PhiV m c grid0.N from rfl]
  unfold PhiV
  rw [show grid0.N = 50 by rw [N_0]]
  iintro ⟨⟨%y0, %y1, %ps, -, HS0, HS1, HS2⟩, HS3, Hg, Hq0, Hh0, Hh1, HR0_0⟩
  ihave HX0_0 := (ring0_0_out (F := F) m c) $$ HR0_0
  icases HX0_0 with ⟨HR0_0, ⟨Hq1, Hq2, Hq3⟩, Hh2⟩
  isplitl [HS0 HS1 HS2 HS3 HR0_0]
  · isplitl [HS0]; · iexists _; iexact HS0
    isplitl [HS1]; · iexists _; iexact HS1
    isplitl [HS2]; · iexists _; iexact HS2
    isplitl [HS3]; · iexact HS3
    iexact HR0_0
  isplitl [Hg]
  · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  isplitl [Hh1]; · iexact Hh1
  iexact Hh2

/-! ## The run -/

/-- What every final state holds of the kernel's arrays and buffers. -/
abbrev RunPost (r : PUnit × MemSt nD τ sig (Elt F)) : Prop :=
  Pipeline.FramePost cfgs (dats m) (0 : Fin 1) (Pipeline.afterTail₀ cfgs (dats m) (0 : Fin 1) (V0 m) [hostOps1]) r

set_option backward.isDefEq.respectTransparency.types false in
set_option maxHeartbeats 800000 in
/-- THE LAUNCH: every weakly fair execution of @main terminates, with every array of the pipeline at its tracked
    contents, every other buffer at what the lines after the kernel make of them, and every counter at zero. -/
theorem run_main : θ_run defs (onTc (τ := τ) (main (F := F))) (s₀ m ρ) (fun r => RunPost m r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

end Cert.KernelIdeal.Tracked

end
-- ==== Proof.KernelValue.lean ====
/- What the run of the whole kernel program leaves: its arguments as launched, and its three results as functions of the
   arrays the launch finds. -/
module

public import proofs.«01_k».proof.Proof.KernelFrame
public import Idealize.ShloMosaic.Lib.Pipeline.ValueKit

@[expose] public section

set_option maxRecDepth 16384

noncomputable section

namespace Cert.KernelIdeal.Tracked

open Cert.KernelIdeal.Gen
open Idealize.ShloMosaic Idealize.ShloMosaic.TcCoe Idealize.ShloMosaic.Tactic Idealize.ShloMosaic.ValueIdx
open Idealize.SL.Sem

variable {F : FTy → Type} [FloatOps F] [Named F]
variable (m : (ℓ : Loc nD τ sig) → Buf (Elt F) ℓ) (ρ : Dev nD → PrngReg)

/-! ## The buffers no line after the kernel writes -/

/-- The lines after the kernel leave a buffer that is none of their results. -/
theorem tail_keeps (W : Valuation τ sig (Elt F)) (b : Ref sig .tc) (hb : b ∉ T0) :
    StableHlo.after ([hostOps1] : List (List (HloOp τ sig (Elt F)))).flatten W (Proc.devRef .tc b) = W (Proc.devRef .tc b) :=
  StableHlo.after_of_forall_not_mem _ _ fun op hop hw =>
    hb (sfx_writes hostOps1 (List.mem_singleton.mpr rfl) op (by simpa only [List.flatten_cons, List.flatten_nil, List.append_nil] using hop) b hw)

/-- What the kernel leaves: its arrays at their last contents, every other buffer as it found it. -/
def exitVal (c : Dev nD) : Valuation τ sig (Elt F) :=
  Pipeline.withArrays spec0 c (V0 m c) fun w => (dats m 0 c).arrAt w cfg0.N

/-- A buffer that no window writes back to ends as it was. -/
theorem exitVal_rest (c : Dev nD) (b : Ref sig .tc) (hb : ∀ w, Pipeline.arrRef spec0 w ≠ b) :
    exitVal m c (Proc.devRef .tc b) = V m c b :=
  Pipeline.withArrays_of_ne spec0 c (V0 m c) _ b hb

/-- A buffer that is neither an array of the kernel nor a result of a later line ends as the kernel found it. -/
theorem rest_end {r : PUnit × MemSt nD τ sig (Elt F)} (h : RunPost m r) (c : Dev nD) (b : Ref sig .tc)
    (hr : b ∈ Pipeline.restRefs sig spec0) (hw : ∀ w, Pipeline.arrRef spec0 w ≠ b) (hb : b ∉ T0) :
    r.2.mem ((c.tc : Thread nD τ).loc b) = V m c b :=
  ((h c).2 b hr).trans ((tail_keeps _ b hb).trans (exitVal_rest m c b hw))

/-- The arguments end as launched. -/
theorem args_end {r : PUnit × MemSt nD τ sig (Elt F)} (h : RunPost m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  have key (b : Ref sig .tc) (hr : b ∈ Pipeline.restRefs sig spec0) (hw : ∀ w, Pipeline.arrRef spec0 w ≠ b) (hb : b ∉ T0)
      (hV : V m c b = m ((c.tc : Thread nD τ).loc b)) : r.2.mem ((c.tc : Thread nD τ).loc b) = m ((c.tc : Thread nD τ).loc b) :=
    (rest_end m h c b hr hw hb).trans hV
  exact ⟨key main_arg0 (Pipeline.mem_restRefs_of main_arg0 (by decide) (by decide)) (by decide) (by decide) (V_main_arg0 m c),
    key main_arg1 (Pipeline.mem_restRefs_of main_arg1 (by decide) (by decide)) (by decide) (by decide) (V_main_arg1 m c),
    key main_arg2 (Pipeline.mem_restRefs_of main_arg2 (by decide) (by decide)) (by decide) (by decide) (V_main_arg2 m c),
    key main_arg3 (Pipeline.mem_restRefs_of main_arg3 (by decide) (by decide)) (by decide) (by decide) (V_main_arg3 m c),
    key main_arg4 (Pipeline.mem_restRefs_of main_arg4 (by decide) (by decide)) (by decide) (by decide) (V_main_arg4 m c),
    key main_arg5 (Pipeline.mem_restRefs_of main_arg5 (by decide) (by decide)) (by decide) (by decide) (V_main_arg5 m c),
    key main_arg6 (Pipeline.mem_restRefs_of main_arg6 (by decide) (by decide)) (by decide) (by decide) (V_main_arg6 m c),
    key main_arg7 (Pipeline.mem_restRefs_of main_arg7 (by decide) (by decide)) (by decide) (by decide) (V_main_arg7 m c),
    key main_arg8 (Pipeline.mem_restRefs_of main_arg8 (by decide) (by decide)) (by decide) (by decide) (V_main_arg8 m c),
    key main_arg9 (Pipeline.mem_restRefs_of main_arg9 (by decide) (by decide)) (by decide) (by decide) (V_main_arg9 m c),
    key main_arg10 (Pipeline.mem_restRefs_of main_arg10 (by decide) (by decide)) (by decide) (by decide) (V_main_arg10 m c),
    key main_arg11 (Pipeline.mem_restRefs_of main_arg11 (by decide) (by decide)) (by decide) (by decide) (V_main_arg11 m c),
    key main_arg12 (Pipeline.mem_restRefs_of main_arg12 (by decide) (by decide)) (by decide) (by decide) (V_main_arg12 m c)⟩

/-! ## The kernel's three arrays -/

/-- The first hidden array, row `i` from point `i / 200`. -/
def hidden1 (c : Dev nD) : Vec F S1x10000x128 .f32 := fun y =>
  k0_pay1 (rowsL m c (pt ((y 1).val / 200))) (ValueIdx.ix3 0 ⟨(y 1).val % 200, Nat.mod_lt _ (by decide)⟩ (y 2))
/-- The second. -/
def hidden2 (c : Dev nD) : Vec F S1x10000x128 .f32 := fun y =>
  k0_pay2 (rows m c (pt ((y 1).val / 200))) (ValueIdx.ix3 0 ⟨(y 1).val % 200, Nat.mod_lt _ (by decide)⟩ (y 2))

/-- Point `t`'s block of a hidden array: the array's row `200·t + y 1` is the block's row `y 1`. -/
theorem block_row (x : Vec F S1x200x128 .f32) (f : Fin cfg0.N → Vec F S1x200x128 .f32) (t : Fin cfg0.N) (hx : x = f t)
    (y : S1x200x128.Idx) (e : S1x10000x128.Idx) (h1 : (e 1).val = t.val * 200 + (y 1).val) (h2 : (e 2).val = (y 2).val) :
    x y = f (pt ((e 1).val / 200)) (ValueIdx.ix3 0 ⟨(e 1).val % 200, Nat.mod_lt _ (by decide)⟩ (e 2)) := by
  have hy : (y 1).val < 200 := (y 1).isLt
  have hd : (e 1).val / 200 = t.val := by omega
  have hm : (e 1).val % 200 = (y 1).val := by omega
  rw [hx, hd, pt_val]
  refine congrArg _ (funext fun a => Fin.ext ?_)
  fin_cases a
  · exact Nat.lt_one_iff.mp (y 0).isLt
  · exact hm.symm
  · exact h2.symm

/-- The first output window is at its point's block. -/
theorem index5 : ∀ t : Fin cfg0.N, win0_5.index t = ![0, t.val, 0] := by decide +kernel
/-- The second output window is at its point's block. -/
theorem index6 : ∀ t : Fin cfg0.N, win0_6.index t = ![0, t.val, 0] := by decide +kernel

set_option maxHeartbeats 800000 in
/-- The first output array ends holding the first hidden array: each point writes its own rows. -/
theorem arr5 (c : Dev nD) : (dats m 0 c).arrAt 5 cfg0.N = hidden1 m c := by
  refine (dats m 0 c).arrAt_eq_of_covers 5 _ (by decide +kernel) fun t hf y => ?_
  blk_simp
  rw [after0_5]
  exact block_row (k0_pay1 (rowsL m c t)) (fun u => k0_pay1 (rowsL m c u)) t rfl y _ (by blk_simp [index5]) (by blk_simp [index5])

set_option maxHeartbeats 800000 in
/-- And the second. -/
theorem arr6 (c : Dev nD) : (dats m 0 c).arrAt 6 cfg0.N = hidden2 m c := by
  refine (dats m 0 c).arrAt_eq_of_covers 6 _ (by decide +kernel) fun t hf y => ?_
  blk_simp
  rw [after0_6]
  exact block_row (k0_pay2 (rows m c t)) (fun u => k0_pay2 (rows m c u)) t rfl y _ (by blk_simp [index6]) (by blk_simp [index6])

set_option maxHeartbeats 800000 in
/-- The scores are written back once, by the last point. -/
theorem arr7 (c : Dev nD) : (dats m 0 c).arrAt 7 cfg0.N = scoresAll m c (pt 49) := by
  refine (dats m 0 c).arrAt_eq_of_after_last 7 (pt 49) (by decide +kernel) _ fun j => ?_
  blk_simp
  rw [after0_7]

/-! ## The scores the lines after the kernel assemble -/

/-- One column of scores, the sampling bias added. -/
def scoreRow0 (sc : Vec F S10000x2 .f32) (b : Vec F S1x10000 .f32) : Vec F S1x10000 .f32 :=
  addf (broadcastInDim S1x10000 ![1] bcast_S10000_S1x10000_1
    (shapeCast S10000 (extractStridedSlice S10000x1 ![0, 0] sc slices_S10000x2_S10000x1_0_0) shapeCasts_S10000x1_S10000)) b
/-- The other. -/
def scoreRow1 (sc : Vec F S10000x2 .f32) (b : Vec F S1x10000 .f32) : Vec F S1x10000 .f32 :=
  addf (broadcastInDim S1x10000 ![1] bcast_S10000_S1x10000_1
    (shapeCast S10000 (extractStridedSlice S10000x1 ![0, 1] sc slices_S10000x2_S10000x1_0_1) shapeCasts_S10000x1_S10000)) b

/-- The two, side by side. -/
def logits (sc : Vec F S10000x2 .f32) (b0 b1 : Vec F S1x10000 .f32) : Vec F S1x20000 .f32 :=
  concatenate S1x20000 1 [⟨S1x10000, scoreRow0 sc b0⟩, ⟨S1x10000, scoreRow1 sc b1⟩] concatenates_S1x10000_S1x10000_S1x20000_d1

set_option maxHeartbeats 1600000 in
/-- The host's tail turns the score array and the two biases into the logits. -/
theorem tail_logits (W : Valuation τ sig (Elt F)) :
    StableHlo.after ([hostOps1] : List (List (HloOp τ sig (Elt F)))).flatten W (Proc.devRef .tc main_v18)
      = logits (W (Proc.devRef .tc main_v9_2)) (W (Proc.devRef .tc main_arg6)) (W (Proc.devRef .tc main_arg7)) := by
  simp only [List.flatten_cons, List.flatten_nil, List.append_nil, hostOps1]
  after_results_simp
  rfl

/-- THE RUN: every execution terminates, the arguments end as launched, the three results hold the assembled scores and
    the two hidden arrays, and every counter is at zero. -/
theorem value_run : θ_run defs (onTc (τ := τ) (main (F := F))) ⟨m, fun _ => 0, ρ⟩ (fun r =>
    (∀ c : Dev nD, r.2.mem ((c.tc : Thread nD τ).loc main_v18)
          = logits (scoresAll m c (pt 49)) (m ((c.tc : Thread nD τ).loc main_arg6)) (m ((c.tc : Thread nD τ).loc main_arg7))
        ∧ r.2.mem ((c.tc : Thread nD τ).loc main_v9_0) = hidden1 m c
        ∧ r.2.mem ((c.tc : Thread nD τ).loc main_v9_1) = hidden2 m c)
      ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  refine (θ_run defs _ _).mono (fun r h => ⟨fun c => ⟨?_, ?_, ?_⟩, args_end m h.1, h.2⟩) (run_main m ρ)
  · refine ((h.1 c).2 main_v18 (Pipeline.mem_restRefs_of main_v18 (by decide) (by decide))).trans ?_
    refine (tail_logits (exitVal m c)).trans ?_
    rw [exitVal_rest m c main_arg6 (by decide), exitVal_rest m c main_arg7 (by decide), V_main_arg6, V_main_arg7]
    exact congrArg (fun s => logits s _ _) ((Pipeline.withArrays_arr spec0 (by decide) c (V0 m c) _ 7).trans (arr7 m c))
  · exact ((h.1 c).1 5).trans (arr5 m c)
  · exact ((h.1 c).1 6).trans (arr6 m c)

end Cert.KernelIdeal.Tracked

end
-- ==== Proof.KernelSame.lean ====
/- The kernel as printed is, over the machine's own floats, the idealized kernel: the one rewritten literal reads there as the
   float word it was. So its run is the idealized kernel's run. -/
module

public import proofs.«01_k».proof.Defs
public import proofs.«01_k».proof.Proof.Gen.Kernel
public import proofs.«01_k».proof.Proof.KernelValue

@[expose] public section

set_option maxRecDepth 16384

noncomputable section

namespace Cert.Same

open Idealize.ShloMosaic Idealize.ShloMosaic.TcCoe
open Idealize.SL.Sem

/-- The machine's floats with every named literal read as the word it was written as. -/
@[reducible] def asWritten : Named Bits where
  named _ _ {φ} w := Scalar.ofBits φ w

attribute [local instance] asWritten

/-- The two host programs are the same. -/
theorem main_eq : Cert.Kernel.main (F := Bits) = Cert.KernelIdeal.main (F := Bits) := rfl

/-- The two kernels' bodies are the same at every grid point: they part at one literal only. -/
theorem body_eq (i : Cert.Kernel.grid0.Coords) :
    Cert.Kernel.cc0__dgi_body (F := Bits) i = Cert.KernelIdeal.cc0__dgi_body (F := Bits) i := rfl

/-- So their body tables are. -/
theorem bodies_eq : Cert.Kernel.defs₀ (F := Bits) = Cert.KernelIdeal.defs₀ (F := Bits) := by
  refine congrArg Defs.onTc ?_
  funext ℓ a
  match ℓ, a with
  | 0, (t, s) => rfl
  | ⟨_ + 1, h⟩, _ => exact absurd h (Nat.not_lt.2 (Nat.le_add_left _ _))

/-- And their tables with the pipelines' labels. -/
theorem defs_eq : Cert.Kernel.defs (F := Bits) = Cert.KernelIdeal.defs (F := Bits) :=
  congrArg (Pipeline.defs (Cert.Kernel.pcfgs (F := Bits))) bodies_eq

/-- The printed kernel's run ends with no transfer under way and its arguments as they were, because it is the idealized
    kernel's run. -/
theorem kernel_frame : Cert.quiescent_Kernel := by
  intro m g _
  have h := (θ_run Cert.KernelIdeal.defs _ _).mono (fun _ h => h.2) (Cert.KernelIdeal.Tracked.value_run (F := Bits) m g)
  rw [← defs_eq, ← main_eq] at h
  exact h

end Cert.Same

end
-- ==== Proof.Scores.lean ====
/- The mathematics both programs compute, over the extended reals and plain index ranges: one graph-convolution layer per
   node sequence, the readout of the first, and the bilinear scores; and the one law the two programs' orders of
   summation differ by. -/
module

public import Mathlib.Data.EReal.Operations
public import Mathlib.Algebra.BigOperators.Fin
public import Idealize.ShloMosaic.PureOps.Ideal

@[expose] public section

noncomputable section

namespace Cert.Scores

open Idealize.ShloMosaic

/-- A node's projected features: its row times the transposed weights. -/
def feat (s : Fin 10000 → Fin 128 → EReal) (w : Fin 128 → Fin 128 → EReal) (n : Fin 10000) (f : Fin 128) : EReal :=
  ∑ k, s n k * w f k

/-- The layer before its activation. -/
def pre (s : Fin 10000 → Fin 128 → EReal) (A : Fin 10000 → Fin 10000 → EReal) (w : Fin 128 → Fin 128 → EReal)
    (b : Fin 128 → EReal) (i : Fin 10000) (f : Fin 128) : EReal :=
  (∑ n, A i n * feat s w n f) + b f

/-- The activation, the identity on positive values and a slope elsewhere. -/
def act (a x : EReal) : EReal := if 0 < x then x else a * x

/-- One layer. -/
def hid (s : Fin 10000 → Fin 128 → EReal) (A : Fin 10000 → Fin 10000 → EReal) (w : Fin 128 → Fin 128 → EReal)
    (b : Fin 128 → EReal) (a : EReal) (i : Fin 10000) (f : Fin 128) : EReal :=
  act a (pre s A w b i f)

/-- The summary of the first layer: the logistic function of its mean over the nodes. -/
def ctx (h : Fin 10000 → Fin 128 → EReal) (g : Fin 128) : EReal :=
  Ideal.logistic ((∑ i, h i g) * ((1 / 10000 : ℝ) : EReal))

/-- A node's score, the bilinear form applied to the node first. -/
def scoreRow (h : Fin 10000 → Fin 128 → EReal) (wb : Fin 128 → Fin 128 → EReal) (c : Fin 128 → EReal) (b : EReal)
    (i : Fin 10000) : EReal :=
  (∑ g, (∑ f, h i f * wb f g) * c g) + b

/-- The same, the bilinear form applied to the summary first. -/
def scoreCol (h : Fin 10000 → Fin 128 → EReal) (wb : Fin 128 → Fin 128 → EReal) (c : Fin 128 → EReal) (b : EReal)
    (i : Fin 10000) : EReal :=
  (∑ f, h i f * ∑ g, wb f g * c g) + b

/-! ## Finite values -/

/-- Neither infinity. -/
def Fin' (x : EReal) : Prop := ∃ r : ℝ, x = (r : EReal)

/-- A product of finite numbers is finite. -/
theorem Fin'.mul {x y : EReal} (hx : Fin' x) (hy : Fin' y) : Fin' (x * y) := by
  obtain ⟨a, rfl⟩ := hx; obtain ⟨b, rfl⟩ := hy
  exact ⟨a * b, (EReal.coe_mul a b).symm⟩
/-- A sum of two finite numbers is finite. -/
theorem Fin'.add {x y : EReal} (hx : Fin' x) (hy : Fin' y) : Fin' (x + y) := by
  obtain ⟨a, rfl⟩ := hx; obtain ⟨b, rfl⟩ := hy
  exact ⟨a + b, (EReal.coe_add a b).symm⟩
/-- A sum of finite numbers is finite. -/
theorem Fin'.sum {ι : Type} (s : Finset ι) {f : ι → EReal} (h : ∀ i, Fin' (f i)) : Fin' (∑ i ∈ s, f i) := by
  classical
  induction s using Finset.induction_on with
  | empty => exact ⟨0, by simp⟩
  | insert i s hi ih => rw [Finset.sum_insert hi]; exact (h i).add ih
/-- A value whose absolute value lies below the infinity. -/
theorem Fin'.of_abs {x : EReal} (h : max x (-x) < ⊤) : Fin' x := by
  induction x using EReal.rec with
  | bot => simp at h
  | top => simp at h
  | coe r => exact ⟨r, rfl⟩

/-- The activation of a finite number with a finite slope is finite. -/
theorem Fin'.act {a x : EReal} (ha : Fin' a) (hx : Fin' x) : Fin' (act a x) := by
  unfold Scores.act
  split
  · exact hx
  · exact ha.mul hx

/-- The logistic function is finite everywhere. -/
theorem Fin'.logistic (x : EReal) : Fin' (Ideal.logistic x) := by
  induction x using EReal.rec with
  | bot => exact ⟨0, by simp⟩
  | top => exact ⟨1, by simp⟩
  | coe r => exact ⟨_, Ideal.logistic_coe r⟩

/-- A hidden entry of finite arguments is finite. -/
theorem hid_fin {s : Fin 10000 → Fin 128 → EReal} {A : Fin 10000 → Fin 10000 → EReal} {w : Fin 128 → Fin 128 → EReal}
    {b : Fin 128 → EReal} {a : EReal} (hs : ∀ n k, Fin' (s n k)) (hA : ∀ i n, Fin' (A i n)) (hw : ∀ f k, Fin' (w f k))
    (hb : ∀ f, Fin' (b f)) (ha : Fin' a) (i : Fin 10000) (f : Fin 128) : Fin' (hid s A w b a i f) :=
  Fin'.act ha ((Fin'.sum _ fun n => (hA i n).mul (Fin'.sum _ fun k => (hs n k).mul (hw f k))).add (hb f))

/-- A sum of reals, taken as extended reals. -/
theorem coe_sum {n : ℕ} (f : Fin n → ℝ) : (∑ k, (f k : EReal)) = ((∑ k, f k : ℝ) : EReal) :=
  (map_sum (⟨⟨fun r : ℝ => (r : EReal), EReal.coe_zero⟩, EReal.coe_add⟩ : ℝ →+ EReal) f Finset.univ).symm

/-- Ten thousand ones sum to ten thousand. -/
theorem sum_ones : (∑ _i : Fin 10000, (1 : EReal)) = ((10000 : ℝ) : EReal) := by
  have h := coe_sum (n := 10000) fun _ => 1
  rw [EReal.coe_one] at h
  rw [h, Finset.sum_const, Finset.card_univ, Fintype.card_fin, nsmul_eq_mul, mul_one]
  norm_num

/-- With every factor finite the two orders agree: a real double sum, exchanged. -/
theorem scoreRow_eq_scoreCol {h : Fin 10000 → Fin 128 → EReal} {wb : Fin 128 → Fin 128 → EReal} {c : Fin 128 → EReal}
    (hh : ∀ i f, Fin' (h i f)) (hw : ∀ f g, Fin' (wb f g)) (hc : ∀ g, Fin' (c g)) (b : EReal) (i : Fin 10000) :
    scoreRow h wb c b i = scoreCol h wb c b i := by
  choose h' hh using hh
  choose w' hw using hw
  choose c' hc using hc
  unfold scoreRow scoreCol
  refine congrArg (· + b) ?_
  simp only [hh, hw, hc, ← EReal.coe_mul]
  simp only [coe_sum, ← EReal.coe_mul]
  refine congrArg _ ?_
  simp only [Finset.sum_mul, Finset.mul_sum, mul_assoc]
  exact Finset.sum_comm

end Cert.Scores

end
-- ==== Proof.Pre.lean ====
/- What the precondition says of the arguments' entries: the mask is one everywhere, and the floats the two programs
   reassociate are finite. -/
module

public import proofs.«01_k».proof.Pre_finite_unmasked
public import proofs.«01_k».proof.Proof.Scores
public import Idealize.ShloMosaic.Lib.Pointwise

@[expose] public section

set_option maxRecDepth 16384

noncomputable section

namespace Cert.Pre_finite_unmasked.Read

open Idealize.ShloMosaic
open Cert.Scores

/-- The predicate's shape relations. -/
theorem facts : Cert.Pre_finite_unmasked.Facts where
  bcast_S_S1x10000 := by decide
  bcast_S_S1x10000x128 := by decide
  bcast_S_S1x10000x10000 := by decide
  bcast_S_S128x128 := by decide
  bcast_S_S128 := by decide
  bcast_S_S1 := by decide
  bcast_S_S1x128x128 := by decide

/-- An array whose absolute values all compare below infinity has finite entries. -/
theorem finite_of {S : Shape} (hb : S_.BroadcastsInDim S (![] : Fin 0 → Fin S.rank)) (x : FVec Ideal S .f32)
    (h : cmpf .olt (Host.absf x) (broadcastInDim S ![] hb (constant S_ .f32 0x7F800000#32)) = fun _ => 1#1) (j : S.Idx) :
    Fin' (x j) := by
  have hj := congrFun h j
  revert hj
  pointwise
  intro h1
  have h2 : max (x j) (-(x j)) < Ideal.ofBits .f32 0x7F800000#32 := by
    by_contra hn
    rw [show FloatOps.absf (x j) = max (x j) (-(x j)) from rfl, decide_eq_false hn] at h1
    exact absurd h1 (by decide)
  rw [show Ideal.ofBits .f32 0x7F800000#32 = ⊤ from by simp [Ideal.ofBits, Ideal.ieee]] at h2
  exact Fin'.of_abs h2

/-- An array that compares equal to one everywhere is one everywhere. -/
theorem one_of {S : Shape} (hb : S_.BroadcastsInDim S (![] : Fin 0 → Fin S.rank)) (x : FVec Ideal S .f32)
    (h : cmpf .oeq x (broadcastInDim S ![] hb (constant S_ .f32 0x3F800000#32)) = fun _ => 1#1) (j : S.Idx) :
    x j = 1 := by
  have hj := congrFun h j
  revert hj
  pointwise
  intro h1
  by_contra hn
  rw [decide_eq_false hn] at h1
  exact absurd h1 (by decide)

end Cert.Pre_finite_unmasked.Read

end
-- ==== Proof.KernelPays.lean ====
/- The kernel's payloads and operands over the extended reals, read at an index. -/
module

public import proofs.«01_k».proof.Proof.KernelValue
public import proofs.«01_k».proof.Proof.Scores
public import Idealize.ShloMosaic.Lib.Pointwise
public import Idealize.ShloMosaic.Lib.Claim
public import Idealize.ShloMosaic.Lib.StableHlo.RunRead

@[expose] public section

set_option maxRecDepth 16384

noncomputable section

namespace Cert.KernelIdeal.Tracked

open Cert.KernelIdeal.Gen
open Idealize.ShloMosaic Idealize.ShloMosaic.TcCoe Idealize.ShloMosaic.Tactic
open Idealize.SL.Sem
open Cert.Scores

/-! ## The payloads -/

/-- The first sequence's features at an index: the row against the weight's column. -/
theorem pay9_apply (w : Vec Ideal S128x128 .f32) (s : Vec Ideal S10000x128 .f32) (n : Fin 10000) (f : Fin 128) :
    k0_pay9 w s (ix2 n f) = ∑ k, s (ix2 n k) * w (ix2 k f) := by
  unfold k0_pay9 k0_pay8
  pointwise
/-- The second sequence's features at an index: the same product. -/
theorem pay10_apply (w : Vec Ideal S128x128 .f32) (s : Vec Ideal S10000x128 .f32) (n : Fin 10000) (f : Fin 128) :
    k0_pay10 w s (ix2 n f) = ∑ k, s (ix2 n k) * w (ix2 k f) := by
  unfold k0_pay10 k0_pay8
  pointwise
/-- A block of rows at an index: the activation of the adjacency row against the features, plus the bias. -/
theorem pay13_apply (x : Vec Ideal S1x200x10000 .f32) (y : Vec Ideal S10000x256 .f32) (b : Vec Ideal S1x256 .f32)
    (a : Vec Ideal S1x1 .f32) (r : Fin 200) (q : Fin 256) :
    k0_pay13 x y b a (ix2 r q) = act (a (ix2 0 0)) ((∑ n, x (ix3 0 r n) * y (ix2 n q)) + b (ix2 0 q)) := by
  unfold k0_pay13 act
  pointwise
  simp only [mul_comm (a (ix2 0 0))]
/-- The rows that are summed are the left half of the block. -/
theorem pay14_apply (x : Vec Ideal S1x200x10000 .f32) (y : Vec Ideal S10000x256 .f32) (b : Vec Ideal S1x256 .f32)
    (a : Vec Ideal S1x1 .f32) (r : Fin 200) (f : Fin 128) :
    k0_pay14 x y b a (ix2 r f) = k0_pay13 x y b a (ix2 r ⟨f.val, by omega⟩) := by
  unfold k0_pay14
  generalize k0_pay13 x y b a = z
  pointwise
/-- The first output block is the rows' left half. -/
theorem pay1_apply (v : FVec Ideal S200x128 .f32) (u : Fin 1) (r : Fin 200) (f : Fin 128) : k0_pay1 v (ix3 u r f) = v (ix2 r f) := by
  unfold k0_pay1
  pointwise
/-- The second output block is the rows' right half. -/
theorem pay2_apply (v : FVec Ideal S200x256 .f32) (u : Fin 1) (r : Fin 200) (f : Fin 128) :
    k0_pay2 v (ix3 u r f) = v (ix2 r ⟨128 + f.val, by omega⟩) := by
  unfold k0_pay2
  pointwise
/-- The kept activations are the rows as they are. -/
theorem pay3_apply (v : FVec Ideal S200x256 .f32) (r : Fin 200) (q : Fin 256) : k0_pay3 v (ix2 r q) = v (ix2 r q) := by
  unfold k0_pay3
  pointwise
/-- The running sum grows by the block's column sums. -/
theorem pay4_apply (v : FVec Ideal S200x128 .f32) (ps : Vec Ideal S1x128 .f32) (f : Fin 128) :
    k0_pay4 v ps (ix2 0 f) = ps (ix2 0 f) + ∑ r, v (ix2 r f) := by
  unfold k0_pay4
  pointwise
/-- The running sum starts at zero. -/
theorem pay12_apply (u : Fin 1) (f : Fin 128) : k0_pay12 (k0_pay11 (F := Ideal)) (ix2 u f) = 0 := by
  unfold k0_pay12 k0_pay11
  pointwise
/-- The summary carried through the bilinear weight, at an index. -/
theorem pay5_apply (ps : Vec Ideal S1x128 .f32) (wb : Vec Ideal S128x128 .f32) (f : Fin 128) :
    k0_pay5 ps wb (ix2 f 0) = ∑ g, wb (ix2 f g) * Ideal.logistic (ps (ix2 0 g) * ((1 / 10000 : ℝ) : EReal)) := by
  unfold k0_pay5
  rw [show (Named.named κ "inv_n" 0x38D1B717#32 : Ideal .f32) = ((1 / 10000 : ℝ) : EReal) from
    IdealRules.named_const.ideal_named_scalar _ _ _ _ rfl]
  pointwise
/-- The first score of a node: its left activations against the carried summary, plus the bilinear bias. -/
theorem pay6_apply (ps : Vec Ideal S1x128 .f32) (wb : Vec Ideal S128x128 .f32) (y : Vec Ideal S10000x128 .f32)
    (bb : Vec Ideal S1x1 .f32) (i : Fin 10000) :
    k0_pay6 ps wb y bb (ix2 i 0) = (∑ f, y (ix2 i f) * k0_pay5 ps wb (ix2 f 0)) + bb (ix2 0 0) := by
  unfold k0_pay6
  generalize k0_pay5 ps wb = z
  pointwise
/-- The second score of a node: its right activations against the carried summary, plus the bilinear bias. -/
theorem pay7_apply (ps : Vec Ideal S1x128 .f32) (wb : Vec Ideal S128x128 .f32) (y : Vec Ideal S10000x128 .f32)
    (bb : Vec Ideal S1x1 .f32) (i : Fin 10000) :
    k0_pay7 ps wb y bb (ix2 i 0) = (∑ f, y (ix2 i f) * k0_pay5 ps wb (ix2 f 0)) + bb (ix2 0 0) := by
  unfold k0_pay7
  generalize k0_pay5 ps wb = z
  pointwise

variable (m : (ℓ : Loc nD τ sig) → Buf (Elt Ideal) ℓ)

/-! ## The operands the launch finds -/

/-- The host hands over the first sequence without its unit axis. -/
theorem V_v0 (c : Dev nD) : V m c main_v0 = (shapeCast S10000x128 (m ((c.tc : Thread nD τ).loc main_arg1) : Vec Ideal S1x10000x128 .f32) shapeCasts_S1x10000x128_S10000x128 : Vec Ideal S10000x128 .f32) := by
  simp only [V, V0, List.flatten_cons, List.flatten_nil, List.append_nil, hostOps0]
  after_reads_simp
  try rfl
/-- The host hands over the second sequence without its unit axis. -/
theorem V_v1 (c : Dev nD) : V m c main_v1 = (shapeCast S10000x128 (m ((c.tc : Thread nD τ).loc main_arg2) : Vec Ideal S1x10000x128 .f32) shapeCasts_S1x10000x128_S10000x128 : Vec Ideal S10000x128 .f32) := by
  simp only [V, V0, List.flatten_cons, List.flatten_nil, List.append_nil, hostOps0]
  after_reads_simp
  try rfl
/-- The host hands over the adjacency matrix without its unit axis. -/
theorem V_v2 (c : Dev nD) : V m c main_v2 = (shapeCast S10000x10000 (m ((c.tc : Thread nD τ).loc main_arg3) : Vec Ideal S1x10000x10000 .f32) shapeCasts_S1x10000x10000_S10000x10000 : Vec Ideal S10000x10000 .f32) := by
  simp only [V, V0, List.flatten_cons, List.flatten_nil, List.append_nil, hostOps0]
  after_reads_simp
  try rfl
/-- The host hands over the weight transposed. -/
theorem V_v3 (c : Dev nD) : V m c main_v3 = (transpose S128x128 [1, 0] (m ((c.tc : Thread nD τ).loc main_arg8) : Vec Ideal S128x128 .f32) transposes_S128x128_S128x128_1_0 : Vec Ideal S128x128 .f32) := by
  simp only [V, V0, List.flatten_cons, List.flatten_nil, List.append_nil, hostOps0]
  after_reads_simp
  try rfl
/-- The host hands over the bias twice, side by side. -/
theorem V_v5 (c : Dev nD) : V m c main_v5 = (broadcastInDim S1x256 ![1] bcast_S256_S1x256_1
    (concatenate S256 0 [⟨S128, (m ((c.tc : Thread nD τ).loc main_arg9) : Vec Ideal S128 .f32)⟩, ⟨S128, (m ((c.tc : Thread nD τ).loc main_arg9) : Vec Ideal S128 .f32)⟩] concatenates_S128_S128_S256_d0 : Vec Ideal S256 .f32) : Vec Ideal S1x256 .f32) := by
  simp only [V, V0, List.flatten_cons, List.flatten_nil, List.append_nil, hostOps0]
  after_reads_simp
  try rfl
/-- The host hands over the activation's slope as a one by one array. -/
theorem V_v6 (c : Dev nD) : V m c main_v6 = (shapeCast S1x1 (m ((c.tc : Thread nD τ).loc main_arg10) : Vec Ideal S1 .f32) shapeCasts_S1_S1x1 : Vec Ideal S1x1 .f32) := by
  simp only [V, V0, List.flatten_cons, List.flatten_nil, List.append_nil, hostOps0]
  after_reads_simp
  try rfl
/-- The host hands over the bilinear bias as a one by one array. -/
theorem V_v7 (c : Dev nD) : V m c main_v7 = (shapeCast S1x1 (m ((c.tc : Thread nD τ).loc main_arg12) : Vec Ideal S1 .f32) shapeCasts_S1_S1x1 : Vec Ideal S1x1 .f32) := by
  simp only [V, V0, List.flatten_cons, List.flatten_nil, List.append_nil, hostOps0]
  after_reads_simp
  try rfl
/-- The host hands over the bilinear weight without its unit axis. -/
theorem V_v8 (c : Dev nD) : V m c main_v8 = (shapeCast S128x128 (m ((c.tc : Thread nD τ).loc main_arg11) : Vec Ideal S1x128x128 .f32) shapeCasts_S1x128x128_S128x128 : Vec Ideal S128x128 .f32) := by
  simp only [V, V0, List.flatten_cons, List.flatten_nil, List.append_nil, hostOps0]
  after_reads_simp
  try rfl

/-! ## The host's operations on the operands, at an index -/

/-- A sequence without its unit axis, at an index. -/
theorem dropSeq (x : Vec Ideal S1x10000x128 .f32) (n : Fin 10000) (k : Fin 128) :
    (shapeCast S10000x128 x shapeCasts_S1x10000x128_S10000x128 : Vec Ideal S10000x128 .f32) (ix2 n k) = x (ix3 0 n k) := by
  pointwise
/-- The adjacency matrix without its unit axis, at an index. -/
theorem dropAdj (x : Vec Ideal S1x10000x10000 .f32) (i n : Fin 10000) :
    (shapeCast S10000x10000 x shapeCasts_S1x10000x10000_S10000x10000 : Vec Ideal S10000x10000 .f32) (ix2 i n) = x (ix3 0 i n) := by
  pointwise
/-- The bilinear weight without its unit axis, at an index. -/
theorem dropBil (x : Vec Ideal S1x128x128 .f32) (f g : Fin 128) :
    (shapeCast S128x128 x shapeCasts_S1x128x128_S128x128 : Vec Ideal S128x128 .f32) (ix2 f g) = x (ix3 0 f g) := by
  pointwise
/-- The transposed weight at an index. -/
theorem turnW (x : Vec Ideal S128x128 .f32) (k f : Fin 128) :
    (transpose S128x128 [1, 0] x transposes_S128x128_S128x128_1_0 : Vec Ideal S128x128 .f32) (ix2 k f) = x (ix2 f k) := by
  pointwise
/-- A single number as a one by one array. -/
theorem unitCast (x : Vec Ideal S1 .f32) : (shapeCast S1x1 x shapeCasts_S1_S1x1 : Vec Ideal S1x1 .f32) (ix2 0 0) = x (ix1 0) := by
  pointwise
/-- The bias twice, at a column of either half. -/
theorem twiceL (x : Vec Ideal S128 .f32) (f : Fin 128) :
    (broadcastInDim S1x256 ![1] bcast_S256_S1x256_1
      (concatenate S256 0 [⟨S128, x⟩, ⟨S128, x⟩] concatenates_S128_S128_S256_d0 : Vec Ideal S256 .f32) : Vec Ideal S1x256 .f32)
      (ix2 0 ⟨f.val, by omega⟩) = x (ix1 f) := by
  pointwise
/-- The right half of the bias laid twice is the bias. -/
theorem twiceR (x : Vec Ideal S128 .f32) (f : Fin 128) :
    (broadcastInDim S1x256 ![1] bcast_S256_S1x256_1
      (concatenate S256 0 [⟨S128, x⟩, ⟨S128, x⟩] concatenates_S128_S128_S256_d0 : Vec Ideal S256 .f32) : Vec Ideal S1x256 .f32)
      (ix2 0 ⟨128 + f.val, by omega⟩) = x (ix1 f) := by
  pointwise

/-! ## The blocks the body reads -/

/-- The first sequence as the kernel gets it, at an index. -/
theorem v0_read (c : Dev nD) (n : Fin 10000) (k : Fin 128) :
    (Memref.whole main_v0).view.read (Elt Ideal) (V m c main_v0) (ix2 n k) = (m ((c.tc : Thread nD τ).loc main_arg1) : Vec Ideal S1x10000x128 .f32) (ix3 0 n k) :=
  (congrFun (V_v0 m c) (ix2 n k)).trans (dropSeq _ n k)
/-- The second sequence as the kernel gets it, at an index. -/
theorem v1_read (c : Dev nD) (n : Fin 10000) (k : Fin 128) :
    (Memref.whole main_v1).view.read (Elt Ideal) (V m c main_v1) (ix2 n k) = (m ((c.tc : Thread nD τ).loc main_arg2) : Vec Ideal S1x10000x128 .f32) (ix3 0 n k) :=
  (congrFun (V_v1 m c) (ix2 n k)).trans (dropSeq _ n k)

/-- Window 0 stays at its array's origin. -/
theorem index0 : ∀ t : Fin cfg0.N, win0_0.index t = ![0, 0] := by decide +kernel
/-- Window 1 stays at its array's origin. -/
theorem index1 : ∀ t : Fin cfg0.N, win0_1.index t = ![0, 0] := by decide +kernel
/-- Window 2 stays at its array's origin. -/
theorem index2 : ∀ t : Fin cfg0.N, win0_2.index t = ![0, 0] := by decide +kernel
/-- Window 3 stays at its array's origin. -/
theorem index3 : ∀ t : Fin cfg0.N, win0_3.index t = ![0, 0] := by decide +kernel
/-- Window 4 stays at its array's origin. -/
theorem index4 : ∀ t : Fin cfg0.N, win0_4.index t = ![0, 0] := by decide +kernel

/-- Each parameter's block is the whole parameter at every point. -/
theorem blk0_whole (c : Dev nD) (t : Fin cfg0.N) (x y : Fin 128) :
    (iblk m c 0 t : Vec Ideal S128x128 .f32) (ix2 x y) = (V m c main_v3 : Vec Ideal S128x128 .f32) (ix2 x y) := by
  blk_ext [iblk, index0 t]
/-- The bias block is the whole array. -/
theorem blk1_whole (c : Dev nD) (t : Fin cfg0.N) (x : Fin 1) (y : Fin 256) :
    (iblk m c 1 t : Vec Ideal S1x256 .f32) (ix2 x y) = (V m c main_v5 : Vec Ideal S1x256 .f32) (ix2 x y) := by
  blk_ext [iblk, index1 t]
/-- The slope block is the whole array. -/
theorem blk2_whole (c : Dev nD) (t : Fin cfg0.N) (x y : Fin 1) :
    (iblk m c 2 t : Vec Ideal S1x1 .f32) (ix2 x y) = (V m c main_v6 : Vec Ideal S1x1 .f32) (ix2 x y) := by
  blk_ext [iblk, index2 t]
/-- The bilinear weight's block is the whole array. -/
theorem blk3_whole (c : Dev nD) (t : Fin cfg0.N) (x y : Fin 128) :
    (iblk m c 3 t : Vec Ideal S128x128 .f32) (ix2 x y) = (V m c main_v8 : Vec Ideal S128x128 .f32) (ix2 x y) := by
  blk_ext [iblk, index3 t]
/-- The bilinear bias's block is the whole array. -/
theorem blk4_whole (c : Dev nD) (t : Fin cfg0.N) (x y : Fin 1) :
    (iblk m c 4 t : Vec Ideal S1x1 .f32) (ix2 x y) = (V m c main_v7 : Vec Ideal S1x1 .f32) (ix2 x y) := by
  blk_ext [iblk, index4 t]

/-- The weight block at an index, from the argument. -/
theorem blk0_apply (c : Dev nD) (t : Fin cfg0.N) (k f : Fin 128) :
    (iblk m c 0 t : Vec Ideal S128x128 .f32) (ix2 k f) = (m ((c.tc : Thread nD τ).loc main_arg8) : Vec Ideal S128x128 .f32) (ix2 f k) :=
  (blk0_whole m c t k f).trans ((congrFun (V_v3 m c) (ix2 k f)).trans (turnW _ k f))
/-- The left half of the bias block, from the argument. -/
theorem blk1_applyL (c : Dev nD) (t : Fin cfg0.N) (f : Fin 128) :
    (iblk m c 1 t : Vec Ideal S1x256 .f32) (ix2 0 ⟨f.val, by omega⟩) = (m ((c.tc : Thread nD τ).loc main_arg9) : Vec Ideal S128 .f32) (ix1 f) :=
  (blk1_whole m c t 0 _).trans ((congrFun (V_v5 m c) _).trans (twiceL _ f))
/-- The right half of the bias block, from the argument. -/
theorem blk1_applyR (c : Dev nD) (t : Fin cfg0.N) (f : Fin 128) :
    (iblk m c 1 t : Vec Ideal S1x256 .f32) (ix2 0 ⟨128 + f.val, by omega⟩) = (m ((c.tc : Thread nD τ).loc main_arg9) : Vec Ideal S128 .f32) (ix1 f) :=
  (blk1_whole m c t 0 _).trans ((congrFun (V_v5 m c) _).trans (twiceR _ f))
/-- The slope block, from the argument. -/
theorem blk2_apply (c : Dev nD) (t : Fin cfg0.N) :
    (iblk m c 2 t : Vec Ideal S1x1 .f32) (ix2 0 0) = (m ((c.tc : Thread nD τ).loc main_arg10) : Vec Ideal S1 .f32) (ix1 0) :=
  (blk2_whole m c t 0 0).trans ((congrFun (V_v6 m c) _).trans (unitCast _))
/-- The bilinear weight's block at an index, from the argument. -/
theorem blk3_apply (c : Dev nD) (t : Fin cfg0.N) (f g : Fin 128) :
    (iblk m c 3 t : Vec Ideal S128x128 .f32) (ix2 f g) = (m ((c.tc : Thread nD τ).loc main_arg11) : Vec Ideal S1x128x128 .f32) (ix3 0 f g) :=
  (blk3_whole m c t f g).trans ((congrFun (V_v8 m c) (ix2 f g)).trans (dropBil _ f g))
/-- The bilinear bias's block, from the argument. -/
theorem blk4_apply (c : Dev nD) (t : Fin cfg0.N) :
    (iblk m c 4 t : Vec Ideal S1x1 .f32) (ix2 0 0) = (m ((c.tc : Thread nD τ).loc main_arg12) : Vec Ideal S1 .f32) (ix1 0) :=
  (blk4_whole m c t 0 0).trans ((congrFun (V_v7 m c) _).trans (unitCast _))

/-- The block of the adjacency matrix the ring holds for point `t`: its rows from `200·t` on. -/
theorem adjRows_apply (c : Dev nD) (A : HbBuf0 (F := Ideal) c hbM0_2) (b : Fin 50) (r : Fin 200) (n : Fin 10000) :
    adjRows c A b (ix2 r n) = (A : Vec Ideal S10000x10000 .f32) (ix2 ⟨200 * b.val + r.val, by omega⟩ n) := by
  unfold adjRows srcB0_0
  show (A : Vec Ideal S10000x10000 .f32) _ = _
  refine congrArg A (funext fun a => Fin.ext ?_)
  fin_cases a
  · show 200 * b.val + 1 * r.val = 200 * b.val + r.val
    omega
  · show 0 + 1 * n.val = n.val
    omega

/-- The block a point works on has the point's number. -/
theorem bk_val (t : Fin cfg0.N) : (Ring.bk 50 t.val : Fin 50).val = t.val :=
  Nat.mod_eq_of_lt (lt_of_lt_of_eq t.isLt (show cfg0.N = 50 from N_0))

/-- The landed rows at a point are the adjacency matrix's rows of the point's block. -/
theorem lead_apply (c : Dev nD) (t : Fin cfg0.N) (r : Fin 200) (n : Fin 10000) :
    lead (adjRows c (V m c main_v2) (Ring.bk 50 t.val)) (ix3 0 r n)
      = (m ((c.tc : Thread nD τ).loc main_arg3) : Vec Ideal S1x10000x10000 .f32)
          (ix3 0 ⟨200 * t.val + r.val, by have := lt_of_lt_of_eq t.isLt (show cfg0.N = 50 from N_0); omega⟩ n) := by
  have hv : (⟨200 * (Ring.bk 50 t.val : Fin 50).val + r.val, by omega⟩ : Fin 10000)
      = ⟨200 * t.val + r.val, by have := lt_of_lt_of_eq t.isLt (show cfg0.N = 50 from N_0); omega⟩ :=
    Fin.ext (by show 200 * (Ring.bk 50 t.val : Fin 50).val + r.val = 200 * t.val + r.val; rw [bk_val])
  refine (adjRows_apply c (V m c main_v2) _ r n).trans ?_
  rw [hv]
  exact (congrFun (V_v2 m c) _).trans (dropAdj _ _ n)

end Cert.KernelIdeal.Tracked

end
-- ==== Proof.KernelScores.lean ====
/- The kernel program's three results over the extended reals: each is the mathematics of Scores.lean over the arguments'
   entries. -/
module

public import proofs.«01_k».proof.Proof.KernelPays

@[expose] public section

set_option maxRecDepth 16384

noncomputable section

namespace Cert.KernelIdeal.Tracked

open Cert.KernelIdeal.Gen
open Idealize.ShloMosaic Idealize.ShloMosaic.TcCoe Idealize.ShloMosaic.Tactic
open Idealize.SL.Sem
open Cert.Scores

variable (m : (ℓ : Loc nD τ sig) → Buf (Elt Ideal) ℓ)

/-! ## The arguments' entries -/

/-- Node `n`'s entry `k` in the first sequence. -/
def s1 (c : Dev nD) (n : Fin 10000) (k : Fin 128) : EReal := (m ((c.tc : Thread nD τ).loc main_arg1) : Vec Ideal S1x10000x128 .f32) (ix3 0 n k)
/-- In the second. -/
def s2 (c : Dev nD) (n : Fin 10000) (k : Fin 128) : EReal := (m ((c.tc : Thread nD τ).loc main_arg2) : Vec Ideal S1x10000x128 .f32) (ix3 0 n k)
/-- The adjacency matrix. -/
def adj (c : Dev nD) (i n : Fin 10000) : EReal := (m ((c.tc : Thread nD τ).loc main_arg3) : Vec Ideal S1x10000x10000 .f32) (ix3 0 i n)
/-- The weights. -/
def wgt (c : Dev nD) (f k : Fin 128) : EReal := (m ((c.tc : Thread nD τ).loc main_arg8) : Vec Ideal S128x128 .f32) (ix2 f k)
/-- The bias. -/
def bias (c : Dev nD) (f : Fin 128) : EReal := (m ((c.tc : Thread nD τ).loc main_arg9) : Vec Ideal S128 .f32) (ix1 f)
/-- The activation's slope. -/
def slope (c : Dev nD) : EReal := (m ((c.tc : Thread nD τ).loc main_arg10) : Vec Ideal S1 .f32) (ix1 0)
/-- The bilinear form. -/
def bil (c : Dev nD) (f g : Fin 128) : EReal := (m ((c.tc : Thread nD τ).loc main_arg11) : Vec Ideal S1x128x128 .f32) (ix3 0 f g)
/-- Its bias. -/
def bilBias (c : Dev nD) : EReal := (m ((c.tc : Thread nD τ).loc main_arg12) : Vec Ideal S1 .f32) (ix1 0)

/-- The first layer. -/
def H1 (c : Dev nD) : Fin 10000 → Fin 128 → EReal := hid (s1 m c) (adj m c) (wgt m c) (bias m c) (slope m c)
/-- The second. -/
def H2 (c : Dev nD) : Fin 10000 → Fin 128 → EReal := hid (s2 m c) (adj m c) (wgt m c) (bias m c) (slope m c)

/-! ## The features and the activations -/

/-- The left half of the features is the first sequence's. -/
theorem featsAll_left (c : Dev nD) (n : Fin 10000) (f : Fin 128) :
    featsAll m c (ix2 n ⟨f.val, by omega⟩) = feat (s1 m c) (wgt m c) n f := by
  unfold featsAll feats halves
  rw [dif_pos (show ((ix2 n (⟨f.val, by omega⟩ : Fin 256)) 1).val < 128 from f.isLt)]
  refine (pay9_apply _ _ n f).trans (Finset.sum_congr rfl fun k _ => ?_)
  rw [blk0_apply, v0_read]
  rfl
/-- The right half of the features is the second sequence's. -/
theorem featsAll_right (c : Dev nD) (n : Fin 10000) (f : Fin 128) :
    featsAll m c (ix2 n ⟨128 + f.val, by omega⟩) = feat (s2 m c) (wgt m c) n f := by
  unfold featsAll feats halves
  rw [dif_neg (show ¬((ix2 n (⟨128 + f.val, by omega⟩ : Fin 256)) 1).val < 128 from by
    show ¬(128 + f.val < 128); omega)]
  have hf : (⟨128 + f.val - 128, by omega⟩ : Fin 128) = f := Fin.ext (by show 128 + f.val - 128 = f.val; omega)
  refine (congrArg (fun q : Fin 128 => k0_pay10 _ _ (ix2 n q)) hf).trans ?_
  refine (pay10_apply _ _ n f).trans (Finset.sum_congr rfl fun k _ => ?_)
  rw [blk0_apply, v1_read]
  rfl

/-- Row `r` of point `t`. -/
def nodeOf (t : Fin cfg0.N) (r : Fin 200) : Fin 10000 :=
  ⟨200 * t.val + r.val, by have := lt_of_lt_of_eq t.isLt (show cfg0.N = 50 from N_0); omega⟩

/-- The left half of a point's rows is the first sequence's hidden entries of its nodes. -/
theorem rows_left (c : Dev nD) (t : Fin cfg0.N) (r : Fin 200) (f : Fin 128) :
    rows m c t (ix2 r ⟨f.val, by omega⟩) = H1 m c (nodeOf t r) f := by
  unfold rows H1 hid pre
  refine (pay13_apply _ _ _ _ r _).trans (congrArg₂ act (blk2_apply m c t) (congrArg₂ (· + ·) ?_ (blk1_applyL m c t f)))
  exact Finset.sum_congr rfl fun n _ => congrArg₂ (· * ·) (lead_apply m c t r n) (featsAll_left m c n f)
/-- The right half of a point's rows is the second sequence's hidden entries of its nodes. -/
theorem rows_right (c : Dev nD) (t : Fin cfg0.N) (r : Fin 200) (f : Fin 128) :
    rows m c t (ix2 r ⟨128 + f.val, by omega⟩) = H2 m c (nodeOf t r) f := by
  unfold rows H2 hid pre
  refine (pay13_apply _ _ _ _ r _).trans (congrArg₂ act (blk2_apply m c t) (congrArg₂ (· + ·) ?_ (blk1_applyR m c t f)))
  exact Finset.sum_congr rfl fun n _ => congrArg₂ (· * ·) (lead_apply m c t r n) (featsAll_right m c n f)
/-- The rows summed at a point are the first sequence's hidden entries of its nodes. -/
theorem rowsL_apply (c : Dev nD) (t : Fin cfg0.N) (r : Fin 200) (f : Fin 128) :
    rowsL m c t (ix2 r f) = H1 m c (nodeOf t r) f :=
  (pay14_apply _ _ _ _ r f).trans (rows_left m c t r f)

/-- Every node is one row of one point. -/
theorem nodeOf_div (i : Fin 10000) : nodeOf (pt (i.val / 200)) ⟨i.val % 200, Nat.mod_lt _ (by decide)⟩ = i := by
  refine Fin.ext ?_
  show 200 * (i.val / 200 % 50) + i.val % 200 = i.val
  have := i.isLt
  omega

/-- The first hidden array is the first layer, -/
theorem hidden1_apply (c : Dev nD) (j : S1x10000x128.Idx) : hidden1 m c j = H1 m c (j 1) (j 2) := by
  unfold hidden1
  refine (pay1_apply _ 0 _ (j 2)).trans ((rowsL_apply m c _ _ (j 2)).trans ?_)
  rw [nodeOf_div (j 1)]
/-- and the second the second. -/
theorem hidden2_apply (c : Dev nD) (j : S1x10000x128.Idx) : hidden2 m c j = H2 m c (j 1) (j 2) := by
  unfold hidden2
  refine (pay2_apply _ 0 _ (j 2)).trans ((rows_right m c _ _ (j 2)).trans ?_)
  rw [nodeOf_div (j 1)]

/-- The left half of the kept activations is the first sequence's hidden entries. -/
theorem acts_left (c : Dev nD) (i : Fin 10000) (f : Fin 128) : colsL (acts m c) (ix2 i f) = H1 m c i f := by
  unfold colsL acts
  refine (pay3_apply _ _ _).trans ((rows_left m c _ _ f).trans ?_)
  exact congrArg (fun n => H1 m c n f) (nodeOf_div i)
/-- The right half of the kept activations is the second sequence's hidden entries. -/
theorem acts_right (c : Dev nD) (i : Fin 10000) (f : Fin 128) : colsR (acts m c) (ix2 i f) = H2 m c i f := by
  unfold colsR acts
  refine (pay3_apply _ _ _).trans ((rows_right m c _ _ f).trans ?_)
  exact congrArg (fun n => H2 m c n f) (nodeOf_div i)

/-! ## The running sum -/

/-- Node `i`'s entry in the first layer, zero past the last node. -/
def entry (c : Dev nD) (f : Fin 128) (i : ℕ) : EReal := if h : i < 10000 then H1 m c ⟨i, h⟩ f else 0

/-- Before point `k` the running sum is the sum over the first `200·k` nodes. -/
theorem psum_apply (c : Dev nD) (f : Fin 128) : ∀ k, k ≤ 50 → psum m c k (ix2 0 f) = ∑ i ∈ Finset.range (200 * k), entry m c f i
  | 0, _ => pay12_apply 0 f
  | k + 1, hk => by
    have hp : (pt k).val = k := Nat.mod_eq_of_lt (by omega)
    show k0_pay4 (rowsL m c (pt k)) (psum m c k) (ix2 0 f) = _
    rw [pay4_apply, psum_apply c f k (by omega), Nat.mul_succ, Finset.sum_range_add]
    refine congrArg (_ + ·) ?_
    rw [Finset.sum_range]
    refine Finset.sum_congr rfl fun r _ => ?_
    rw [rowsL_apply]
    unfold entry
    rw [dif_pos (by omega)]
    exact congrArg (fun n => H1 m c n f) (Fin.ext (by show 200 * (pt k).val + r.val = 200 * k + r.val; rw [hp]))

/-- After the last point the running sum is the sum over all nodes. -/
theorem psum_full (c : Dev nD) (f : Fin 128) : psum m c 50 (ix2 0 f) = ∑ i, H1 m c i f := by
  rw [psum_apply m c f 50 (le_refl _), show 200 * 50 = 10000 from rfl, Finset.sum_range]
  exact Finset.sum_congr rfl fun i _ => dif_pos i.isLt

/-! ## The scores -/

/-- The last point's bilinear form at the summary. -/
theorem form_apply (c : Dev nD) (t : Fin cfg0.N) (f : Fin 128) :
    k0_pay5 (psum m c 50) (iblk m c 3 t) (ix2 f 0) = ∑ g, bil m c f g * ctx (H1 m c) g := by
  rw [pay5_apply]
  refine Finset.sum_congr rfl fun g _ => ?_
  rw [blk3_apply, psum_full]
  rfl

/-- The first column of the scores at a node. -/
theorem scoresAll_left (c : Dev nD) (t : Fin cfg0.N) (i : Fin 10000) :
    scoresAll m c t (ix2 i 0) = scoreCol (H1 m c) (bil m c) (ctx (H1 m c)) (bilBias m c) i := by
  unfold scoresAll scores
  rw [if_pos (show ((ix2 i (0 : Fin 2)) 1).val = 0 from rfl)]
  refine (pay6_apply _ _ _ _ i).trans ?_
  rw [blk4_apply]
  simp only [form_apply, acts_left]
  rfl
/-- The second column of the scores at a node. -/
theorem scoresAll_right (c : Dev nD) (t : Fin cfg0.N) (i : Fin 10000) :
    scoresAll m c t (ix2 i 1) = scoreCol (H2 m c) (bil m c) (ctx (H1 m c)) (bilBias m c) i := by
  unfold scoresAll scores
  rw [if_neg (show ¬((ix2 i (1 : Fin 2)) 1).val = 0 from Nat.one_ne_zero)]
  refine (pay7_apply _ _ _ _ i).trans ?_
  rw [blk4_apply]
  simp only [form_apply, acts_right]
  rfl

/-- The first score row at an index: the first column's score plus its bias. -/
theorem scoreRow0_apply (sc : Vec Ideal S10000x2 .f32) (b : Vec Ideal S1x10000 .f32) (j : S1x10000.Idx) :
    scoreRow0 sc b j = sc (ix2 (j 1) 0) + b j := by
  unfold scoreRow0
  pointwise
/-- The second score row at an index: the second column's score plus its bias. -/
theorem scoreRow1_apply (sc : Vec Ideal S10000x2 .f32) (b : Vec Ideal S1x10000 .f32) (j : S1x10000.Idx) :
    scoreRow1 sc b j = sc (ix2 (j 1) 1) + b j := by
  unfold scoreRow1
  pointwise

end Cert.KernelIdeal.Tracked

end
-- ==== Proof.ReferenceValue.lean ====
/- The reference program's three results, read at an index: each is the mathematics of Scores.lean over the arguments'
   entries. -/
module

public import proofs.«01_k».proof.Proof.Scores
public import proofs.«01_k».proof.Proof.Gen.ReferenceIdeal.Run
public import Idealize.ShloMosaic.Lib.Pointwise
public import Idealize.ShloMosaic.Lib.ValueIdx
public import Idealize.ShloMosaic.Lib.IdealHost

@[expose] public section

set_option maxRecDepth 16384

noncomputable section

namespace Cert.ReferenceIdeal.Read

open Cert.ReferenceIdeal Cert.ReferenceIdeal.Gen
open Idealize.ShloMosaic Idealize.ShloMosaic.TcCoe Idealize.ShloMosaic.Tactic Idealize.SL.Sem
open Cert.Scores

/-- One layer as the reference writes it. -/
def layer (adj : FVec Ideal S1x10000x10000 .f32) (seq : FVec Ideal S1x10000x128 .f32) (w : FVec Ideal S128x128 .f32)
    (b : FVec Ideal S128 .f32) (a : FVec Ideal S1 .f32) : FVec Ideal S1x10000x128 .f32 :=
  have x := addf (Host.dotGeneral dot_S1x10000x10000_S1x10000x128_S1x10000x128_2_1_1_2_0_0 none adj
      (Host.dotGeneral dot_S1x10000x128_S128x128_S1x10000x128_2_1_01_0_n_n none seq w))
    (broadcastInDim S1x10000x128 ![0, 1, 2] bcast_S1x1x128_S1x10000x128_0_1_2 (broadcastInDim S1x1x128 ![2] bcast_S128_S1x1x128_2 b))
  select (cmpf .ogt x (broadcastInDim S1x10000x128 ![] bcast_S_S1x10000x128 (constant S_ .f32 0x00000000#32))) x
    (mulf (broadcastInDim S1x10000x128 ![0, 1, 2] bcast_S1x1x1_S1x10000x128_0_1_2 (broadcastInDim S1x1x1 ![2] bcast_S1_S1x1x1_2 a)) x)

/-- It is the layer of Scores.lean over the arguments' entries. -/
theorem layer_apply (adj : FVec Ideal S1x10000x10000 .f32) (seq : FVec Ideal S1x10000x128 .f32) (w : FVec Ideal S128x128 .f32)
    (b : FVec Ideal S128 .f32) (a : FVec Ideal S1 .f32) (j : S1x10000x128.Idx) :
    layer adj seq w b a j = hid (fun n k => seq (ix3 0 n k)) (fun i n => adj (ix3 0 i n)) (fun f k => w (ix2 f k))
      (fun f => b (ix1 f)) (a (ix1 0)) (j 1) (j 2) := by
  have h0 : @Eq (Fin 1) (j 0) 0 := Subsingleton.elim _ _
  unfold layer
  pointwise
  rw [h0]
  rfl

/-- The summary as the reference writes it: the masked mean over the nodes, then the logistic function. -/
def summary (h : FVec Ideal S1x10000x128 .f32) (msk : FVec Ideal S1x10000 .f32) : FVec Ideal S1x128 .f32 :=
  Host.divf (broadcastInDim S1x128 ![] bcast_S_S1x128 (constant S_ .f32 0x3F800000#32))
    (addf (broadcastInDim S1x128 ![] bcast_S_S1x128 (constant S_ .f32 0x3F800000#32))
      (Host.exp (Host.negf (Host.divf
        (Host.reduceAdd (mulf h (broadcastInDim S1x10000x128 ![0, 1, 2] bcast_S1x10000x1_S1x10000x128_0_1_2
            (broadcastInDim S1x10000x1 ![0, 1] bcast_S1x10000_S1x10000x1_0_1 msk)))
          (constant S_ .f32 0x00000000#32) reducesTo_S1x10000x128_S1x128_d1 h_S_)
        (broadcastInDim S1x128 ![] bcast_S_S1x128
          (Host.reduceAdd (broadcastInDim S1x10000x1 ![0, 1] bcast_S1x10000_S1x10000x1_0_1 msk)
            (constant S_ .f32 0x00000000#32) reducesTo_S1x10000x1_S_d0_1_2 h_S_))))))

/-- With no node masked it is the summary of Scores.lean. -/
theorem summary_apply (h : FVec Ideal S1x10000x128 .f32) (msk : FVec Ideal S1x10000 .f32) (hm : ∀ j, msk j = 1) (j : S1x128.Idx) :
    summary h msk j = ctx (fun i f => h (ix3 0 i f)) (j 1) := by
  unfold summary
  pointwise
  simp only [hm, mul_one]
  simp only [Finset.univ_unique, Finset.sum_singleton, sum_ones]
  rw [Ideal.div_coe (by norm_num)]
  rfl

/-- The scores of one sequence as the reference writes them. -/
def score (h : FVec Ideal S1x10000x128 .f32) (wb : FVec Ideal S1x128x128 .f32) (c : FVec Ideal S1x128 .f32)
    (bb : FVec Ideal S1 .f32) (sb : FVec Ideal S1x10000 .f32) : FVec Ideal S1x10000 .f32 :=
  addf (addf (Host.reduceAdd (mulf (Host.dotGeneral dot_S1x10000x128_S128x128_S1x10000x128_2_0_01_1_n_n none h
        (shapeCast _ wb shapeCasts_S1x128x128_S128x128))
      (broadcastInDim S1x10000x128 ![0, 1, 2] bcast_S1x1x128_S1x10000x128_0_1_2
        (broadcastInDim S1x1x128 ![0, 2] bcast_S1x128_S1x1x128_0_2 c)))
      (constant S_ .f32 0x00000000#32) reducesTo_S1x10000x128_S1x10000_d2 h_S_)
    (broadcastInDim S1x10000 ![] bcast_S_S1x10000 (shapeCast _ bb shapeCasts_S1_S_))) sb

/-- A score row at an index: the hidden entry through the form against the summary, plus the two biases. -/
theorem score_apply (h : FVec Ideal S1x10000x128 .f32) (wb : FVec Ideal S1x128x128 .f32) (c : FVec Ideal S1x128 .f32)
    (bb : FVec Ideal S1 .f32) (sb : FVec Ideal S1x10000 .f32) (j : S1x10000.Idx) :
    score h wb c bb sb j = scoreRow (fun i f => h (ix3 0 i f)) (fun f g => wb (ix3 0 f g)) (fun g => c (ix2 0 g)) (bb (ix1 0)) (j 1)
      + sb j := by
  unfold score
  pointwise
  rfl

variable (m : (ℓ : Loc nD τ sig) → Buf (Elt Ideal) ℓ) (ρ : Dev nD → PrngReg)

/-- The reference's two hidden arrays. -/
def hidden1 (c : Dev nD) : FVec Ideal S1x10000x128 .f32 :=
  layer (m ((c.tc : Thread nD τ).loc main_arg3)) (m ((c.tc : Thread nD τ).loc main_arg1)) (m ((c.tc : Thread nD τ).loc main_arg8))
    (m ((c.tc : Thread nD τ).loc main_arg9)) (m ((c.tc : Thread nD τ).loc main_arg10))
/-- The second hidden array. -/
def hidden2 (c : Dev nD) : FVec Ideal S1x10000x128 .f32 :=
  layer (m ((c.tc : Thread nD τ).loc main_arg3)) (m ((c.tc : Thread nD τ).loc main_arg2)) (m ((c.tc : Thread nD τ).loc main_arg8))
    (m ((c.tc : Thread nD τ).loc main_arg9)) (m ((c.tc : Thread nD τ).loc main_arg10))

/-- The scores of the two sequences, over the first one's summary. -/
def score1 (c : Dev nD) : FVec Ideal S1x10000 .f32 :=
  score (hidden1 m c) (m ((c.tc : Thread nD τ).loc main_arg11)) (summary (hidden1 m c) (m ((c.tc : Thread nD τ).loc main_arg5)))
    (m ((c.tc : Thread nD τ).loc main_arg12)) (m ((c.tc : Thread nD τ).loc main_arg6))
/-- The second score row. -/
def score2 (c : Dev nD) : FVec Ideal S1x10000 .f32 :=
  score (hidden2 m c) (m ((c.tc : Thread nD τ).loc main_arg11)) (summary (hidden1 m c) (m ((c.tc : Thread nD τ).loc main_arg5)))
    (m ((c.tc : Thread nD τ).loc main_arg12)) (m ((c.tc : Thread nD τ).loc main_arg7))

/-- The first result is the two score rows side by side. -/
theorem out0_eq (c : Dev nD) : Value.res_out0 m c
    = concatenate S1x20000 1 [⟨S1x10000, score1 m c⟩, ⟨S1x10000, score2 m c⟩] concatenates_S1x10000_S1x10000_S1x20000_d1 := rfl

end Cert.ReferenceIdeal.Read

end
-- ==== Proof.Agree.lean ====
/- The two programs' three results are equal: the hidden arrays outright, the scores where the mask is one everywhere and
   the entries are finite. -/
module

public import proofs.«01_k».proof.Defs
public import proofs.«01_k».proof.Proof.Pre
public import proofs.«01_k».proof.Proof.KernelScores
public import proofs.«01_k».proof.Proof.ReferenceValue

@[expose] public section

set_option maxRecDepth 16384

noncomputable section

namespace Cert.Agree

open Idealize.ShloMosaic Idealize.ShloMosaic.TcCoe
open Idealize.SL.Sem
open Cert.Scores
open Cert.KernelIdeal Cert.KernelIdeal.Gen Cert.KernelIdeal.Tracked

variable (m : (ℓ : Loc nD τ sig) → Buf (Elt Ideal) ℓ)

/-- The first layer, as the reference computes it from the kernel's arguments. -/
def layer1 (c : Dev nD) : FVec Ideal S1x10000x128 .f32 :=
  ReferenceIdeal.Read.layer (m ((c.tc : Thread nD τ).loc main_arg3)) (m ((c.tc : Thread nD τ).loc main_arg1))
    (m ((c.tc : Thread nD τ).loc main_arg8)) (m ((c.tc : Thread nD τ).loc main_arg9)) (m ((c.tc : Thread nD τ).loc main_arg10))
/-- The second. -/
def layer2 (c : Dev nD) : FVec Ideal S1x10000x128 .f32 :=
  ReferenceIdeal.Read.layer (m ((c.tc : Thread nD τ).loc main_arg3)) (m ((c.tc : Thread nD τ).loc main_arg2))
    (m ((c.tc : Thread nD τ).loc main_arg8)) (m ((c.tc : Thread nD τ).loc main_arg9)) (m ((c.tc : Thread nD τ).loc main_arg10))

/-- The reference's first hidden array at an index is the first sequence's hidden entry there. -/
theorem layer1_apply (c : Dev nD) (j : S1x10000x128.Idx) : layer1 m c j = H1 m c (j 1) (j 2) :=
  ReferenceIdeal.Read.layer_apply _ _ _ _ _ j
/-- The reference's second hidden array at an index is the second sequence's hidden entry there. -/
theorem layer2_apply (c : Dev nD) (j : S1x10000x128.Idx) : layer2 m c j = H2 m c (j 1) (j 2) :=
  ReferenceIdeal.Read.layer_apply _ _ _ _ _ j

/-- The kernel's hidden arrays are the reference's, with no condition. -/
theorem hidden1_eq (c : Dev nD) : hidden1 m c = layer1 m c :=
  funext fun j => (hidden1_apply m c j).trans (layer1_apply m c j).symm
/-- The kernel's second hidden array is the reference's, on every input. -/
theorem hidden2_eq (c : Dev nD) : hidden2 m c = layer2 m c :=
  funext fun j => (hidden2_apply m c j).trans (layer2_apply m c j).symm

/-- What the precondition gives on a device. -/
structure Unmasked (c : Dev nD) : Prop where
  mask : ∀ j, (m ((c.tc : Thread nD τ).loc main_arg5) : FVec Ideal S1x10000 .f32) j = (1 : EReal)
  h1 : ∀ i f, Fin' (H1 m c i f)
  h2 : ∀ i f, Fin' (H2 m c i f)
  form : ∀ f g, Fin' (bil m c f g)

/-- The precondition gives, on each device, a mask of ones and the seven finite arguments. -/
theorem unmasked_of_pre (h : Cert.Pre_KernelIdeal_finite_unmasked (hPre_finite_unmasked := Pre_finite_unmasked.Read.facts) m) (c : Dev nD) :
    Unmasked m c := by
  obtain ⟨hk, hs1, hs2, hA, hw, hb, ha, hB⟩ := h c
  have fs1 := Pre_finite_unmasked.Read.finite_of _ _ hs1
  have fs2 := Pre_finite_unmasked.Read.finite_of _ _ hs2
  have fA := Pre_finite_unmasked.Read.finite_of _ _ hA
  have fw := Pre_finite_unmasked.Read.finite_of _ _ hw
  have fb := Pre_finite_unmasked.Read.finite_of _ _ hb
  have fa := Pre_finite_unmasked.Read.finite_of _ _ ha
  have fB := Pre_finite_unmasked.Read.finite_of _ _ hB
  exact ⟨Pre_finite_unmasked.Read.one_of _ _ hk,
    hid_fin (fun _ _ => fs1 _) (fun _ _ => fA _) (fun _ _ => fw _) (fun _ => fb _) (fa _),
    hid_fin (fun _ _ => fs2 _) (fun _ _ => fA _) (fun _ _ => fw _) (fun _ => fb _) (fa _),
    fun _ _ => fB _⟩

/-- The reference's summary of the first layer, under an all-one mask. -/
theorem summary_eq (c : Dev nD) (hg : Unmasked m c) (j : S1x128.Idx) :
    ReferenceIdeal.Read.summary (layer1 m c) (m ((c.tc : Thread nD τ).loc main_arg5)) j = ctx (H1 m c) (j 1) :=
  (ReferenceIdeal.Read.summary_apply _ _ hg.mask j).trans
    (congrArg (fun h => ctx h (j 1)) (funext fun i => funext fun f => layer1_apply m c (ix3 0 i f)))

/-- A reference score row over a layer `h` with entries `H`, read over the kernel's order of the bilinear form. -/
theorem score_eq (c : Dev nD) (hg : Unmasked m c) (h : FVec Ideal S1x10000x128 .f32) (H : Fin 10000 → Fin 128 → EReal)
    (hH : ∀ i f, h (ix3 0 i f) = H i f) (fH : ∀ i f, Fin' (H i f)) (sb : FVec Ideal S1x10000 .f32) (j : S1x10000.Idx) :
    ReferenceIdeal.Read.score h (m ((c.tc : Thread nD τ).loc main_arg11))
        (ReferenceIdeal.Read.summary (layer1 m c) (m ((c.tc : Thread nD τ).loc main_arg5)))
        (m ((c.tc : Thread nD τ).loc main_arg12)) sb j
      = scoreCol H (bil m c) (ctx (H1 m c)) (bilBias m c) (j 1) + sb j := by
  refine (ReferenceIdeal.Read.score_apply _ _ _ _ sb j).trans (congrArg (· + sb j) ?_)
  refine Eq.trans ?_ (scoreRow_eq_scoreCol fH hg.form (fun g => Fin'.logistic _) (bilBias m c) (j 1))
  have e1 : (fun i f => h (ix3 0 i f)) = H := funext fun i => funext fun f => hH i f
  have e2 : (fun g => ReferenceIdeal.Read.summary (layer1 m c) (m ((c.tc : Thread nD τ).loc main_arg5)) (ix2 0 g)) = ctx (H1 m c) :=
    funext fun g => summary_eq m c hg (ix2 0 g)
  rw [e1, e2]
  rfl

/-- The two score rows agree, -/
theorem score1_eq (c : Dev nD) (hg : Unmasked m c) :
    scoreRow0 (scoresAll m c (pt 49)) (m ((c.tc : Thread nD τ).loc main_arg6))
      = ReferenceIdeal.Read.score (layer1 m c) (m ((c.tc : Thread nD τ).loc main_arg11))
        (ReferenceIdeal.Read.summary (layer1 m c) (m ((c.tc : Thread nD τ).loc main_arg5)))
        (m ((c.tc : Thread nD τ).loc main_arg12)) (m ((c.tc : Thread nD τ).loc main_arg6)) :=
  funext fun j => (scoreRow0_apply _ _ j).trans ((congrArg (· + _) (scoresAll_left m c _ (j 1))).trans
    (score_eq m c hg (layer1 m c) (H1 m c) (fun i f => layer1_apply m c (ix3 0 i f)) hg.h1 _ j).symm)
/-- both of them, -/
theorem score2_eq (c : Dev nD) (hg : Unmasked m c) :
    scoreRow1 (scoresAll m c (pt 49)) (m ((c.tc : Thread nD τ).loc main_arg7))
      = ReferenceIdeal.Read.score (layer2 m c) (m ((c.tc : Thread nD τ).loc main_arg11))
        (ReferenceIdeal.Read.summary (layer1 m c) (m ((c.tc : Thread nD τ).loc main_arg5)))
        (m ((c.tc : Thread nD τ).loc main_arg12)) (m ((c.tc : Thread nD τ).loc main_arg7)) :=
  funext fun j => (scoreRow1_apply _ _ j).trans ((congrArg (· + _) (scoresAll_right m c _ (j 1))).trans
    (score_eq m c hg (layer2 m c) (H2 m c) (fun i f => layer2_apply m c (ix3 0 i f)) hg.h2 _ j).symm)

/-- and so do the logits made of them. -/
theorem logits_eq (m' : (ℓ : Loc ReferenceIdeal.nD ReferenceIdeal.τ ReferenceIdeal.sig) → Buf (Elt Ideal) ℓ) (c : Dev nD) (hg : Unmasked m c)
    (e1 : ReferenceIdeal.Read.score1 m' c = scoreRow0 (scoresAll m c (pt 49)) (m ((c.tc : Thread nD τ).loc main_arg6)))
    (e2 : ReferenceIdeal.Read.score2 m' c = scoreRow1 (scoresAll m c (pt 49)) (m ((c.tc : Thread nD τ).loc main_arg7))) :
    ReferenceIdeal.Value.res_out0 m' c
      = logits (scoresAll m c (pt 49)) (m ((c.tc : Thread nD τ).loc main_arg6)) (m ((c.tc : Thread nD τ).loc main_arg7)) := by
  rw [ReferenceIdeal.Read.out0_eq, e1, e2]
  rfl

end Cert.Agree

end
-- ==== Proof.lean ====
/- The proof of the claim: the frames of the three programs, the idealization's one named constant, and the equality of the
   kernel's three results with the reference's over the extended reals. -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.KernelValue
public import proofs.«01_k».proof.Proof.KernelSame
public import proofs.«01_k».proof.Proof.Agree
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The idealized kernel's run ends quiescent, its arguments unchanged. -/
theorem kernelIdeal_frame : Cert.quiescent_KernelIdeal := fun m g _ =>
  (θ_run Cert.KernelIdeal.defs _ _).mono (fun _ h => h.2) (Cert.KernelIdeal.Tracked.value_run m g)

/-- The reference's run too: it declares no semaphore. -/
theorem referenceIdeal_frame : Cert.quiescent_ReferenceIdeal := fun m g _ =>
  (θ_run Cert.ReferenceIdeal.defs _ _).mono
    (fun r h => ⟨fun c => (h c).2.2.2, sem_eq_zero_of_no_sems rfl r.2⟩) (Cert.ReferenceIdeal.Value.run m g)

/-- From memories agreeing on the arguments, under the precondition, the two programs end with equal results. -/
theorem values_agree : Cert.algebraic_KernelIdeal_ReferenceIdeal_pre_finite_unmasked
    (hPre_finite_unmasked := Cert.Pre_finite_unmasked.Read.facts) := by
  intro m g m' g' hpre hagree
  refine ⟨fun c => Cert.KernelIdeal.Tracked.logits (Cert.KernelIdeal.Tracked.scoresAll m c (Cert.KernelIdeal.Tracked.pt 49))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => Cert.KernelIdeal.Tracked.hidden1 m c, fun c => Cert.KernelIdeal.Tracked.hidden2 m c,
    (θ_run Cert.KernelIdeal.defs _ _).mono (fun _ h c => ⟨(h.1 c).1, (h.1 c).2.1, (h.1 c).2.2, h.2.1 c⟩)
      (Cert.KernelIdeal.Tracked.value_run m g),
    (θ_run Cert.ReferenceIdeal.defs _ _).mono (fun _ h c => ?_) (Cert.ReferenceIdeal.Value.run m' g')⟩
  obtain ⟨-, a1, a2, a3, -, a5, a6, a7, a8, a9, a10, a11, a12⟩ := hagree c
  have hg := Cert.Agree.unmasked_of_pre m hpre c
  have l1 : Cert.ReferenceIdeal.Read.hidden1 m' c = Cert.Agree.layer1 m c := by
    unfold Cert.ReferenceIdeal.Read.hidden1
    rw [a1, a3, a8, a9, a10]
    rfl
  have l2 : Cert.ReferenceIdeal.Read.hidden2 m' c = Cert.Agree.layer2 m c := by
    unfold Cert.ReferenceIdeal.Read.hidden2
    rw [a2, a3, a8, a9, a10]
    rfl
  have r1 : Cert.ReferenceIdeal.Read.score1 m' c
      = Cert.KernelIdeal.Tracked.scoreRow0 (Cert.KernelIdeal.Tracked.scoresAll m c (Cert.KernelIdeal.Tracked.pt 49))
        (m ((c.tc : Thread Cert.KernelIdeal.nD Cert.KernelIdeal.τ).loc Cert.KernelIdeal.main_arg6)) := by
    unfold Cert.ReferenceIdeal.Read.score1
    rw [l1, a5, a6, a11, a12]
    exact (Cert.Agree.score1_eq m c hg).symm
  have r2 : Cert.ReferenceIdeal.Read.score2 m' c
      = Cert.KernelIdeal.Tracked.scoreRow1 (Cert.KernelIdeal.Tracked.scoresAll m c (Cert.KernelIdeal.Tracked.pt 49))
        (m ((c.tc : Thread Cert.KernelIdeal.nD Cert.KernelIdeal.τ).loc Cert.KernelIdeal.main_arg7)) := by
    unfold Cert.ReferenceIdeal.Read.score2
    rw [l1, l2, a5, a7, a11, a12]
    exact (Cert.Agree.score2_eq m c hg).symm
  exact ⟨(h c).1.trans (Cert.Agree.logits_eq m m' c hg r1 r2), ((h c).2.1.trans l1).trans (Cert.Agree.hidden1_eq m c).symm,
    ((h c).2.2.1.trans l2).trans (Cert.Agree.hidden2_eq m c).symm, (h c).2.2.2⟩

/-- Everything the certificate claims. -/
theorem claim : Cert.Claim :=
  ⟨Cert.Kernel.Gen.facts, Cert.KernelIdeal.Gen.facts, Cert.ReferenceIdeal.Gen.facts, Cert.Pre_finite_unmasked.Read.facts,
    Cert.Same.kernel_frame,
    kernelIdeal_frame,
    fun m g _ => kernelIdeal_frame m g trivial,
    referenceIdeal_frame,
    fun m g _ => referenceIdeal_frame m g trivial,
    IdealRules.named_const.statement Cert.KernelIdeal.κ "inv_n" .f32 0x38D1B717#32 ((1 / 10000 : ℝ) : EReal) rfl,
    values_agree⟩

end Cert.Proof

end
